-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x4096 : Shape := ⟨2, ![16384, 4096]⟩
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x4096 .f32) (main_arg1 : IVec S16384x2048 32) : IVec S_ 1 :=
  let main_c : IVec S_ 32 := constantI S_ 32 0#32
  let main_v0 : IVec S16384x2048 32 := broadcastInDim S16384x2048 ![] bcast_S_S16384x2048 main_c
  let main_v1 : IVec S16384x2048 1 := cmpi .sge main_arg1 main_v0
  let main_c_0 : IVec S_ 32 := constantI S_ 32 4096#32
  let main_v2 : IVec S16384x2048 32 := broadcastInDim S16384x2048 ![] bcast_S_S16384x2048 main_c_0
  let main_v3 : IVec S16384x2048 1 := cmpi .slt main_arg1 main_v2
  let main_v4 : IVec S16384x2048 1 := andi main_v1 main_v3
  let main_c_1 : IVec S_ 1 := constantI S_ 1 1#1
  let main_v5 : IVec S_ 1 := (fun x v => Host.reduce IntOp.andi x v reducesTo_S16384x2048_S_d0_1 h_S_) main_v4 main_c_1
  main_v5
-- ==== Kernel.lean ====
abbrev S16384x4096 : Shape := ⟨2, ![16384, 4096]⟩
abbrev S16384x2048 : Shape := ⟨2, ![16384, 2048]⟩
abbrev S8x4096 : Shape := ⟨2, ![8, 4096]⟩
abbrev S16384 : Shape := ⟨1, ![16384]⟩
abbrev S_ : Shape := ⟨0, ![]⟩
abbrev S2048 : Shape := ⟨1, ![2048]⟩
abbrev S1x2048 : Shape := ⟨2, ![1, 2048]⟩
abbrev S16 : Shape := ⟨1, ![16]⟩

abbrev nBuf : Table → Nat
  | .hbm => 3
  | .local .scVector .vmem => 5
  | _ => 0

abbrev bufTy : (tb : Table) → Fin (nBuf tb) → BufTy
  | .hbm, ⟨0, _⟩ => ⟨S16384x4096, .f32⟩
  | .hbm, ⟨1, _⟩ => ⟨S16384x2048, .i32⟩
  | .hbm, ⟨2, _⟩ => ⟨S16384x2048, .f32⟩
  | .local .scVector .vmem, ⟨0, _⟩ => ⟨S8x4096, .f32⟩
  | .local .scVector .vmem, ⟨1, _⟩ => ⟨S8x4096, .f32⟩
  | .local .scVector .vmem, ⟨2, _⟩ => ⟨S16384, .i32⟩
  | .local .scVector .vmem, ⟨3, _⟩ => ⟨S16384, .i32⟩
  | .local .scVector .vmem, ⟨4, _⟩ => ⟨S16384, .f32⟩
  | _, _ => ⟨S16384x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let v3 : BitVec 32 := Scalar.addi v2 c0_i32
  let c0_i32_0 : BitVec 32 := 0#32
  ![v3.toNat, 0]
def k0_off2 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let v3 : BitVec 32 := Scalar.addi v2 c0_i32
  let v6 : BitVec 32 := Scalar.addi v3 c0_i32_2
  let c0_i32_4 : BitVec 32 := 0#32
  ![v6.toNat, 0]
@[reducible] def k0_t1_loop : Scf.Loop 32 :=
  let c0_i32_30 : BitVec 32 := 0#32
  let c32_i32 : BitVec 32 := 32#32
  let v62 : BitVec 32 := Scalar.addi c0_i32_30 c32_i32
  let c1_i32_31 : BitVec 32 := 1#32
  ⟨c0_i32_30, v62, c1_i32_31⟩
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_73 : BitVec 32 := 2#32
  let c0_i32_30 : BitVec 32 := 0#32
  let c1_i32_31 : BitVec 32 := 1#32
  let arg15 : BitVec 32 := Scf.iv c0_i32_30 c1_i32_31 k0_t1
  let v112 : BitVec 32 := Scalar.muli c2_i32_73 arg15
  let c1_i32_74 : BitVec 32 := 1#32
  let v113 : BitVec 32 := Scalar.addi v112 c1_i32_74
  let c8_i32 : BitVec 32 := 8#32
  let v114 : BitVec 32 := Scalar.muli v113 c8_i32
  let v115 : BitVec 32 := Scalar.addi v2 v114
  let c0_i32_75 : BitVec 32 := 0#32
  ![v115.toNat, 0]
def k0_off4 (i : grid0.Coords) (k0_t1 : Fin k0_t1_loop.trips) (c0_i32_77 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_73 : BitVec 32 := 2#32
  let c0_i32_30 : BitVec 32 := 0#32
  let c1_i32_31 : BitVec 32 := 1#32
  let arg15 : BitVec 32 := Scf.iv c0_i32_30 c1_i32_31 k0_t1
  let v112 : BitVec 32 := Scalar.muli c2_i32_73 arg15
  let c1_i32_74 : BitVec 32 := 1#32
  let v113 : BitVec 32 := Scalar.addi v112 c1_i32_74
  let c8_i32 : BitVec 32 := 8#32
  let v114 : BitVec 32 := Scalar.muli v113 c8_i32
  let v115 : BitVec 32 := Scalar.addi v2 v114
  let v118 : BitVec 32 := Scalar.addi v115 c0_i32_77
  let c0_i32_79 : BitVec 32 := 0#32
  ![v118.toNat, 0]
@[reducible] def k0_t2_loop : Scf.Loop 32 :=
  let c0_i32_164 : BitVec 32 := 0#32
  let c128_i32 : BitVec 32 := 128#32
  let v228 : BitVec 32 := Scalar.addi c0_i32_164 c128_i32
  let c1_i32_165 : BitVec 32 := 1#32
  ⟨c0_i32_164, v228, c1_i32_165⟩
def k0_off5 (k0_t2 : Fin k0_t2_loop.trips) : Fin 1 → Nat :=
  let c0_i32_413 : BitVec 32 := 0#32
  let c0_i32_412 : BitVec 32 := 0#32
  let c0_i32_164 : BitVec 32 := 0#32
  let c1_i32_165 : BitVec 32 := 1#32
  let arg17 : BitVec 32 := Scf.iv c0_i32_164 c1_i32_165 k0_t2
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c0_i32_413 v479
  let v481 : Index := Scalar.indexCast v480
  ![v481.toNat]

def k0_chk1 (v227 : IVec S16 32) (v482 : IVec S16 32) : Prop :=
  (∀ a x, ((![v227, v482] : Fin 2 → IVec S16 32) a x).toNat < S8x4096.size a)
theorem k0_idx1_inb : ∀ (v227 : IVec S16 32) (v482 : IVec S16 32) (k0_hw1 : k0_chk1 v227 v482), ∀ a x, ((![v227, v482] : Fin 2 → IVec S16 32) a x).toNat < S8x4096.size a := fun v227 v482 k0_hw1 => k0_hw1
def k0_off6 (k0_t2 : Fin k0_t2_loop.trips) : Fin 1 → Nat :=
  let c0_i32_413 : BitVec 32 := 0#32
  let c0_i32_412 : BitVec 32 := 0#32
  let c0_i32_164 : BitVec 32 := 0#32
  let c1_i32_165 : BitVec 32 := 1#32
  let arg17 : BitVec 32 := Scf.iv c0_i32_164 c1_i32_165 k0_t2
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c0_i32_413 v479
  let v484 : Index := Scalar.indexCast v480
  ![v484.toNat]
@[reducible] def k0_t3_loop : Scf.Loop 32 :=
  let c0_i32_168 : BitVec 32 := 0#32
  let c128_i32_169 : BitVec 32 := 128#32
  let v230 : BitVec 32 := Scalar.addi c0_i32_168 c128_i32_169
  let c1_i32_170 : BitVec 32 := 1#32
  ⟨c0_i32_168, v230, c1_i32_170⟩
def k0_off7 (k0_t3 : Fin k0_t3_loop.trips) : Fin 1 → Nat :=
  let c2048_i32_413 : BitVec 32 := 2048#32
  let c0_i32_412 : BitVec 32 := 0#32
  let c0_i32_168 : BitVec 32 := 0#32
  let c1_i32_170 : BitVec 32 := 1#32
  let arg17 : BitVec 32 := Scf.iv c0_i32_168 c1_i32_170 k0_t3
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c2048_i32_413 v479
  let v481 : Index := Scalar.indexCast v480
  ![v481.toNat]

def k0_chk2 (v229 : IVec S16 32) (v482 : IVec S16 32) : Prop :=
  (∀ a x, ((![v229, v482] : Fin 2 → IVec S16 32) a x).toNat < S8x4096.size a)
theorem k0_idx2_inb : ∀ (v229 : IVec S16 32) (v482 : IVec S16 32) (k0_hw2 : k0_chk2 v229 v482), ∀ a x, ((![v229, v482] : Fin 2 → IVec S16 32) a x).toNat < S8x4096.size a := fun v229 v482 k0_hw2 => k0_hw2
def k0_off8 (k0_t3 : Fin k0_t3_loop.trips) : Fin 1 → Nat :=
  let c2048_i32_413 : BitVec 32 := 2048#32
  let c0_i32_412 : BitVec 32 := 0#32
  let c0_i32_168 : BitVec 32 := 0#32
  let c1_i32_170 : BitVec 32 := 1#32
  let arg17 : BitVec 32 := Scf.iv c0_i32_168 c1_i32_170 k0_t3
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c2048_i32_413 v479
  let v484 : Index := Scalar.indexCast v480
  ![v484.toNat]
@[reducible] def k0_t4_loop : Scf.Loop 32 :=
  let c0_i32_173 : BitVec 32 := 0#32
  let c128_i32_174 : BitVec 32 := 128#32
  let v232 : BitVec 32 := Scalar.addi c0_i32_173 c128_i32_174
  let c1_i32_175 : BitVec 32 := 1#32
  ⟨c0_i32_173, v232, c1_i32_175⟩
def k0_off9 (k0_t4 : Fin k0_t4_loop.trips) : Fin 1 → Nat :=
  let c4096_i32_413 : BitVec 32 := 4096#32
  let c0_i32_412 : BitVec 32 := 0#32
  let c0_i32_173 : BitVec 32 := 0#32
  let c1_i32_175 : BitVec 32 := 1#32
  let arg17 : BitVec 32 := Scf.iv c0_i32_173 c1_i32_175 k0_t4
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c4096_i32_413 v479
  let v481 : Index := Scalar.indexCast v480
  ![v481.toNat]

def k0_chk3 (v231 : IVec S16 32) (v482 : IVec S16 32) : Prop :=
  (∀ a x, ((![v231, v482] : Fin 2 → IVec S16 32) a x).toNat < S8x4096.size a)
theorem k0_idx3_inb : ∀ (v231 : IVec S16 32) (v482 : IVec S16 32) (k0_hw3 : k0_chk3 v231 v482), ∀ a x, ((![v231, v482] : Fin 2 → IVec S16 32) a x).toNat < S8x4096.size a := fun v231 v482 k0_hw3 => k0_hw3
def k0_off10 (k0_t4 : Fin k0_t4_loop.trips) : Fin 1 → Nat :=
  let c4096_i32_413 : BitVec 32 := 4096#32
  let c0_i32_412 : BitVec 32 := 0#32
  let c0_i32_173 : BitVec 32 := 0#32
  let c1_i32_175 : BitVec 32 := 1#32
  let arg17 : BitVec 32 := Scf.iv c0_i32_173 c1_i32_175 k0_t4
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c4096_i32_413 v479
  let v484 : Index := Scalar.indexCast v480
  ![v484.toNat]
@[reducible] def k0_t5_loop : Scf.Loop 32 :=
  let c0_i32_178 : BitVec 32 := 0#32
  let c128_i32_179 : BitVec 32 := 128#32
  let v234 : BitVec 32 := Scalar.addi c0_i32_178 c128_i32_179
  let c1_i32_180 : BitVec 32 := 1#32
  ⟨c0_i32_178, v234, c1_i32_180⟩
def k0_off11 (k0_t5 : Fin k0_t5_loop.trips) : Fin 1 → Nat :=
  let c6144_i32_413 : BitVec 32 := 6144#32
  let c0_i32_412 : BitVec 32 := 0#32
  let c0_i32_178 : BitVec 32 := 0#32
  let c1_i32_180 : BitVec 32 := 1#32
  let arg17 : BitVec 32 := Scf.iv c0_i32_178 c1_i32_180 k0_t5
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c6144_i32_413 v479
  let v481 : Index := Scalar.indexCast v480
  ![v481.toNat]

def k0_chk4 (v233 : IVec S16 32) (v482 : IVec S16 32) : Prop :=
  (∀ a x, ((![v233, v482] : Fin 2 → IVec S16 32) a x).toNat < S8x4096.size a)
theorem k0_idx4_inb : ∀ (v233 : IVec S16 32) (v482 : IVec S16 32) (k0_hw4 : k0_chk4 v233 v482), ∀ a x, ((![v233, v482] : Fin 2 → IVec S16 32) a x).toNat < S8x4096.size a := fun v233 v482 k0_hw4 => k0_hw4
def k0_off12 (k0_t5 : Fin k0_t5_loop.trips) : Fin 1 → Nat :=
  let c6144_i32_413 : BitVec 32 := 6144#32
  let c0_i32_412 : BitVec 32 := 0#32
  let c0_i32_178 : BitVec 32 := 0#32
  let c1_i32_180 : BitVec 32 := 1#32
  let arg17 : BitVec 32 := Scf.iv c0_i32_178 c1_i32_180 k0_t5
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c6144_i32_413 v479
  let v484 : Index := Scalar.indexCast v480
  ![v484.toNat]
@[reducible] def k0_t6_loop : Scf.Loop 32 :=
  let c0_i32_183 : BitVec 32 := 0#32
  let c128_i32_184 : BitVec 32 := 128#32
  let v236 : BitVec 32 := Scalar.addi c0_i32_183 c128_i32_184
  let c1_i32_185 : BitVec 32 := 1#32
  ⟨c0_i32_183, v236, c1_i32_185⟩
def k0_off13 (k0_t6 : Fin k0_t6_loop.trips) : Fin 1 → Nat :=
  let c8192_i32_413 : BitVec 32 := 8192#32
  let c0_i32_412 : BitVec 32 := 0#32
  let c0_i32_183 : BitVec 32 := 0#32
  let c1_i32_185 : BitVec 32 := 1#32
  let arg17 : BitVec 32 := Scf.iv c0_i32_183 c1_i32_185 k0_t6
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c8192_i32_413 v479
  let v481 : Index := Scalar.indexCast v480
  ![v481.toNat]

def k0_chk5 (v235 : IVec S16 32) (v482 : IVec S16 32) : Prop :=
  (∀ a x, ((![v235, v482] : Fin 2 → IVec S16 32) a x).toNat < S8x4096.size a)
theorem k0_idx5_inb : ∀ (v235 : IVec S16 32) (v482 : IVec S16 32) (k0_hw5 : k0_chk5 v235 v482), ∀ a x, ((![v235, v482] : Fin 2 → IVec S16 32) a x).toNat < S8x4096.size a := fun v235 v482 k0_hw5 => k0_hw5
def k0_off14 (k0_t6 : Fin k0_t6_loop.trips) : Fin 1 → Nat :=
  let c8192_i32_413 : BitVec 32 := 8192#32
  let c0_i32_412 : BitVec 32 := 0#32
  let c0_i32_183 : BitVec 32 := 0#32
  let c1_i32_185 : BitVec 32 := 1#32
  let arg17 : BitVec 32 := Scf.iv c0_i32_183 c1_i32_185 k0_t6
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c8192_i32_413 v479
  let v484 : Index := Scalar.indexCast v480
  ![v484.toNat]
@[reducible] def k0_t7_loop : Scf.Loop 32 :=
  let c0_i32_188 : BitVec 32 := 0#32
  let c128_i32_189 : BitVec 32 := 128#32
  let v238 : BitVec 32 := Scalar.addi c0_i32_188 c128_i32_189
  let c1_i32_190 : BitVec 32 := 1#32
  ⟨c0_i32_188, v238, c1_i32_190⟩
def k0_off15 (k0_t7 : Fin k0_t7_loop.trips) : Fin 1 → Nat :=
  let c10240_i32_413 : BitVec 32 := 10240#32
  let c0_i32_412 : BitVec 32 := 0#32
  let c0_i32_188 : BitVec 32 := 0#32
  let c1_i32_190 : BitVec 32 := 1#32
  let arg17 : BitVec 32 := Scf.iv c0_i32_188 c1_i32_190 k0_t7
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c10240_i32_413 v479
  let v481 : Index := Scalar.indexCast v480
  ![v481.toNat]

def k0_chk6 (v237 : IVec S16 32) (v482 : IVec S16 32) : Prop :=
  (∀ a x, ((![v237, v482] : Fin 2 → IVec S16 32) a x).toNat < S8x4096.size a)
theorem k0_idx6_inb : ∀ (v237 : IVec S16 32) (v482 : IVec S16 32) (k0_hw6 : k0_chk6 v237 v482), ∀ a x, ((![v237, v482] : Fin 2 → IVec S16 32) a x).toNat < S8x4096.size a := fun v237 v482 k0_hw6 => k0_hw6
def k0_off16 (k0_t7 : Fin k0_t7_loop.trips) : Fin 1 → Nat :=
  let c10240_i32_413 : BitVec 32 := 10240#32
  let c0_i32_412 : BitVec 32 := 0#32
  let c0_i32_188 : BitVec 32 := 0#32
  let c1_i32_190 : BitVec 32 := 1#32
  let arg17 : BitVec 32 := Scf.iv c0_i32_188 c1_i32_190 k0_t7
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c10240_i32_413 v479
  let v484 : Index := Scalar.indexCast v480
  ![v484.toNat]
@[reducible] def k0_t8_loop : Scf.Loop 32 :=
  let c0_i32_193 : BitVec 32 := 0#32
  let c128_i32_194 : BitVec 32 := 128#32
  let v240 : BitVec 32 := Scalar.addi c0_i32_193 c128_i32_194
  let c1_i32_195 : BitVec 32 := 1#32
  ⟨c0_i32_193, v240, c1_i32_195⟩
def k0_off17 (k0_t8 : Fin k0_t8_loop.trips) : Fin 1 → Nat :=
  let c12288_i32_413 : BitVec 32 := 12288#32
  let c0_i32_412 : BitVec 32 := 0#32
  let c0_i32_193 : BitVec 32 := 0#32
  let c1_i32_195 : BitVec 32 := 1#32
  let arg17 : BitVec 32 := Scf.iv c0_i32_193 c1_i32_195 k0_t8
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c12288_i32_413 v479
  let v481 : Index := Scalar.indexCast v480
  ![v481.toNat]

def k0_chk7 (v239 : IVec S16 32) (v482 : IVec S16 32) : Prop :=
  (∀ a x, ((![v239, v482] : Fin 2 → IVec S16 32) a x).toNat < S8x4096.size a)
theorem k0_idx7_inb : ∀ (v239 : IVec S16 32) (v482 : IVec S16 32) (k0_hw7 : k0_chk7 v239 v482), ∀ a x, ((![v239, v482] : Fin 2 → IVec S16 32) a x).toNat < S8x4096.size a := fun v239 v482 k0_hw7 => k0_hw7
def k0_off18 (k0_t8 : Fin k0_t8_loop.trips) : Fin 1 → Nat :=
  let c12288_i32_413 : BitVec 32 := 12288#32
  let c0_i32_412 : BitVec 32 := 0#32
  let c0_i32_193 : BitVec 32 := 0#32
  let c1_i32_195 : BitVec 32 := 1#32
  let arg17 : BitVec 32 := Scf.iv c0_i32_193 c1_i32_195 k0_t8
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c12288_i32_413 v479
  let v484 : Index := Scalar.indexCast v480
  ![v484.toNat]
@[reducible] def k0_t9_loop : Scf.Loop 32 :=
  let c0_i32_198 : BitVec 32 := 0#32
  let c128_i32_199 : BitVec 32 := 128#32
  let v242 : BitVec 32 := Scalar.addi c0_i32_198 c128_i32_199
  let c1_i32_200 : BitVec 32 := 1#32
  ⟨c0_i32_198, v242, c1_i32_200⟩
def k0_off19 (k0_t9 : Fin k0_t9_loop.trips) : Fin 1 → Nat :=
  let c14336_i32_413 : BitVec 32 := 14336#32
  let c0_i32_412 : BitVec 32 := 0#32
  let c0_i32_198 : BitVec 32 := 0#32
  let c1_i32_200 : BitVec 32 := 1#32
  let arg17 : BitVec 32 := Scf.iv c0_i32_198 c1_i32_200 k0_t9
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c14336_i32_413 v479
  let v481 : Index := Scalar.indexCast v480
  ![v481.toNat]

def k0_chk8 (v241 : IVec S16 32) (v482 : IVec S16 32) : Prop :=
  (∀ a x, ((![v241, v482] : Fin 2 → IVec S16 32) a x).toNat < S8x4096.size a)
theorem k0_idx8_inb : ∀ (v241 : IVec S16 32) (v482 : IVec S16 32) (k0_hw8 : k0_chk8 v241 v482), ∀ a x, ((![v241, v482] : Fin 2 → IVec S16 32) a x).toNat < S8x4096.size a := fun v241 v482 k0_hw8 => k0_hw8
def k0_off20 (k0_t9 : Fin k0_t9_loop.trips) : Fin 1 → Nat :=
  let c14336_i32_413 : BitVec 32 := 14336#32
  let c0_i32_412 : BitVec 32 := 0#32
  let c0_i32_198 : BitVec 32 := 0#32
  let c1_i32_200 : BitVec 32 := 1#32
  let arg17 : BitVec 32 := Scf.iv c0_i32_198 c1_i32_200 k0_t9
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c14336_i32_413 v479
  let v484 : Index := Scalar.indexCast v480
  ![v484.toNat]
def k0_off21 (i : grid0.Coords) (k0_t1 : Fin k0_t1_loop.trips) (c0_i32_203 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_73 : BitVec 32 := 2#32
  let c0_i32_30 : BitVec 32 := 0#32
  let c1_i32_31 : BitVec 32 := 1#32
  let arg15 : BitVec 32 := Scf.iv c0_i32_30 c1_i32_31 k0_t1
  let v112 : BitVec 32 := Scalar.muli c2_i32_73 arg15
  let c8_i32_202 : BitVec 32 := 8#32
  let v243 : BitVec 32 := Scalar.muli v112 c8_i32_202
  let v244 : BitVec 32 := Scalar.addi v2 v243
  let v245 : BitVec 32 := Scalar.addi v244 c0_i32_203
  let c0_i32_205 : BitVec 32 := 0#32
  ![v245.toNat, 0]
def k0_cond2 (k0_t1 : Fin k0_t1_loop.trips) : BitVec 1 :=
  let c0_i32_30 : BitVec 32 := 0#32
  let c1_i32_31 : BitVec 32 := 1#32
  let arg15 : BitVec 32 := Scf.iv c0_i32_30 c1_i32_31 k0_t1
  let c31_i32 : BitVec 32 := 31#32
  let v301 : BitVec 1 := Scalar.cmpi .slt arg15 c31_i32
  let v302 : BitVec 32 := Scalar.extui v301
  let c0_i32_243 : BitVec 32 := 0#32
  let v303 : BitVec 1 := Scalar.cmpi .ne v302 c0_i32_243
  v303

def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_73 : BitVec 32 := 2#32
  let c0_i32_30 : BitVec 32 := 0#32
  let c1_i32_31 : BitVec 32 := 1#32
  let arg15 : BitVec 32 := Scf.iv c0_i32_30 c1_i32_31 k0_t1
  let v112 : BitVec 32 := Scalar.muli c2_i32_73 arg15
  let c2_i32_411 : BitVec 32 := 2#32
  let v477 : BitVec 32 := Scalar.addi v112 c2_i32_411
  let c8_i32_412 : BitVec 32 := 8#32
  let v478 : BitVec 32 := Scalar.muli v477 c8_i32_412
  let v479 : BitVec 32 := Scalar.addi v2 v478
  let c0_i32_413 : BitVec 32 := 0#32
  ![v479.toNat, 0]
def k0_off23 (i : grid0.Coords) (k0_t1 : Fin k0_t1_loop.trips) (c0_i32_415 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_73 : BitVec 32 := 2#32
  let c0_i32_30 : BitVec 32 := 0#32
  let c1_i32_31 : BitVec 32 := 1#32
  let arg15 : BitVec 32 := Scf.iv c0_i32_30 c1_i32_31 k0_t1
  let v112 : BitVec 32 := Scalar.muli c2_i32_73 arg15
  let c2_i32_411 : BitVec 32 := 2#32
  let v477 : BitVec 32 := Scalar.addi v112 c2_i32_411
  let c8_i32_412 : BitVec 32 := 8#32
  let v478 : BitVec 32 := Scalar.muli v477 c8_i32_412
  let v479 : BitVec 32 := Scalar.addi v2 v478
  let v482 : BitVec 32 := Scalar.addi v479 c0_i32_415
  let c0_i32_417 : BitVec 32 := 0#32
  ![v482.toNat, 0]
@[reducible] def k0_t10_loop : Scf.Loop 32 :=
  let c0_i32_329 : BitVec 32 := 0#32
  let c128_i32_330 : BitVec 32 := 128#32
  let v403 : BitVec 32 := Scalar.addi c0_i32_329 c128_i32_330
  let c1_i32_331 : BitVec 32 := 1#32
  ⟨c0_i32_329, v403, c1_i32_331⟩
def k0_off24 (k0_t10 : Fin k0_t10_loop.trips) : Fin 1 → Nat :=
  let c0_i32_413 : BitVec 32 := 0#32
  let c0_i32_412 : BitVec 32 := 0#32
  let c0_i32_329 : BitVec 32 := 0#32
  let c1_i32_331 : BitVec 32 := 1#32
  let arg17 : BitVec 32 := Scf.iv c0_i32_329 c1_i32_331 k0_t10
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c0_i32_413 v479
  let v481 : Index := Scalar.indexCast v480
  ![v481.toNat]

def k0_chk9 (v402 : IVec S16 32) (v482 : IVec S16 32) : Prop :=
  (∀ a x, ((![v402, v482] : Fin 2 → IVec S16 32) a x).toNat < S8x4096.size a)
theorem k0_idx9_inb : ∀ (v402 : IVec S16 32) (v482 : IVec S16 32) (k0_hw9 : k0_chk9 v402 v482), ∀ a x, ((![v402, v482] : Fin 2 → IVec S16 32) a x).toNat < S8x4096.size a := fun v402 v482 k0_hw9 => k0_hw9
def k0_off25 (k0_t10 : Fin k0_t10_loop.trips) : Fin 1 → Nat :=
  let c0_i32_413 : BitVec 32 := 0#32
  let c0_i32_412 : BitVec 32 := 0#32
  let c0_i32_329 : BitVec 32 := 0#32
  let c1_i32_331 : BitVec 32 := 1#32
  let arg17 : BitVec 32 := Scf.iv c0_i32_329 c1_i32_331 k0_t10
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c0_i32_413 v479
  let v484 : Index := Scalar.indexCast v480
  ![v484.toNat]
@[reducible] def k0_t11_loop : Scf.Loop 32 :=
  let c0_i32_334 : BitVec 32 := 0#32
  let c128_i32_335 : BitVec 32 := 128#32
  let v405 : BitVec 32 := Scalar.addi c0_i32_334 c128_i32_335
  let c1_i32_336 : BitVec 32 := 1#32
  ⟨c0_i32_334, v405, c1_i32_336⟩
def k0_off26 (k0_t11 : Fin k0_t11_loop.trips) : Fin 1 → Nat :=
  let c2048_i32_413 : BitVec 32 := 2048#32
  let c0_i32_412 : BitVec 32 := 0#32
  let c0_i32_334 : BitVec 32 := 0#32
  let c1_i32_336 : BitVec 32 := 1#32
  let arg17 : BitVec 32 := Scf.iv c0_i32_334 c1_i32_336 k0_t11
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c2048_i32_413 v479
  let v481 : Index := Scalar.indexCast v480
  ![v481.toNat]

def k0_chk10 (v404 : IVec S16 32) (v482 : IVec S16 32) : Prop :=
  (∀ a x, ((![v404, v482] : Fin 2 → IVec S16 32) a x).toNat < S8x4096.size a)
theorem k0_idx10_inb : ∀ (v404 : IVec S16 32) (v482 : IVec S16 32) (k0_hw10 : k0_chk10 v404 v482), ∀ a x, ((![v404, v482] : Fin 2 → IVec S16 32) a x).toNat < S8x4096.size a := fun v404 v482 k0_hw10 => k0_hw10
def k0_off27 (k0_t11 : Fin k0_t11_loop.trips) : Fin 1 → Nat :=
  let c2048_i32_413 : BitVec 32 := 2048#32
  let c0_i32_412 : BitVec 32 := 0#32
  let c0_i32_334 : BitVec 32 := 0#32
  let c1_i32_336 : BitVec 32 := 1#32
  let arg17 : BitVec 32 := Scf.iv c0_i32_334 c1_i32_336 k0_t11
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c2048_i32_413 v479
  let v484 : Index := Scalar.indexCast v480
  ![v484.toNat]
@[reducible] def k0_t12_loop : Scf.Loop 32 :=
  let c0_i32_339 : BitVec 32 := 0#32
  let c128_i32_340 : BitVec 32 := 128#32
  let v407 : BitVec 32 := Scalar.addi c0_i32_339 c128_i32_340
  let c1_i32_341 : BitVec 32 := 1#32
  ⟨c0_i32_339, v407, c1_i32_341⟩
def k0_off28 (k0_t12 : Fin k0_t12_loop.trips) : Fin 1 → Nat :=
  let c4096_i32_413 : BitVec 32 := 4096#32
  let c0_i32_412 : BitVec 32 := 0#32
  let c0_i32_339 : BitVec 32 := 0#32
  let c1_i32_341 : BitVec 32 := 1#32
  let arg17 : BitVec 32 := Scf.iv c0_i32_339 c1_i32_341 k0_t12
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c4096_i32_413 v479
  let v481 : Index := Scalar.indexCast v480
  ![v481.toNat]

def k0_chk11 (v406 : IVec S16 32) (v482 : IVec S16 32) : Prop :=
  (∀ a x, ((![v406, v482] : Fin 2 → IVec S16 32) a x).toNat < S8x4096.size a)
theorem k0_idx11_inb : ∀ (v406 : IVec S16 32) (v482 : IVec S16 32) (k0_hw11 : k0_chk11 v406 v482), ∀ a x, ((![v406, v482] : Fin 2 → IVec S16 32) a x).toNat < S8x4096.size a := fun v406 v482 k0_hw11 => k0_hw11
def k0_off29 (k0_t12 : Fin k0_t12_loop.trips) : Fin 1 → Nat :=
  let c4096_i32_413 : BitVec 32 := 4096#32
  let c0_i32_412 : BitVec 32 := 0#32
  let c0_i32_339 : BitVec 32 := 0#32
  let c1_i32_341 : BitVec 32 := 1#32
  let arg17 : BitVec 32 := Scf.iv c0_i32_339 c1_i32_341 k0_t12
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c4096_i32_413 v479
  let v484 : Index := Scalar.indexCast v480
  ![v484.toNat]
@[reducible] def k0_t13_loop : Scf.Loop 32 :=
  let c0_i32_344 : BitVec 32 := 0#32
  let c128_i32_345 : BitVec 32 := 128#32
  let v409 : BitVec 32 := Scalar.addi c0_i32_344 c128_i32_345
  let c1_i32_346 : BitVec 32 := 1#32
  ⟨c0_i32_344, v409, c1_i32_346⟩
def k0_off30 (k0_t13 : Fin k0_t13_loop.trips) : Fin 1 → Nat :=
  let c6144_i32_413 : BitVec 32 := 6144#32
  let c0_i32_412 : BitVec 32 := 0#32
  let c0_i32_344 : BitVec 32 := 0#32
  let c1_i32_346 : BitVec 32 := 1#32
  let arg17 : BitVec 32 := Scf.iv c0_i32_344 c1_i32_346 k0_t13
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c6144_i32_413 v479
  let v481 : Index := Scalar.indexCast v480
  ![v481.toNat]

def k0_chk12 (v408 : IVec S16 32) (v482 : IVec S16 32) : Prop :=
  (∀ a x, ((![v408, v482] : Fin 2 → IVec S16 32) a x).toNat < S8x4096.size a)
theorem k0_idx12_inb : ∀ (v408 : IVec S16 32) (v482 : IVec S16 32) (k0_hw12 : k0_chk12 v408 v482), ∀ a x, ((![v408, v482] : Fin 2 → IVec S16 32) a x).toNat < S8x4096.size a := fun v408 v482 k0_hw12 => k0_hw12
def k0_off31 (k0_t13 : Fin k0_t13_loop.trips) : Fin 1 → Nat :=
  let c6144_i32_413 : BitVec 32 := 6144#32
  let c0_i32_412 : BitVec 32 := 0#32
  let c0_i32_344 : BitVec 32 := 0#32
  let c1_i32_346 : BitVec 32 := 1#32
  let arg17 : BitVec 32 := Scf.iv c0_i32_344 c1_i32_346 k0_t13
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c6144_i32_413 v479
  let v484 : Index := Scalar.indexCast v480
  ![v484.toNat]
@[reducible] def k0_t14_loop : Scf.Loop 32 :=
  let c0_i32_349 : BitVec 32 := 0#32
  let c128_i32_350 : BitVec 32 := 128#32
  let v411 : BitVec 32 := Scalar.addi c0_i32_349 c128_i32_350
  let c1_i32_351 : BitVec 32 := 1#32
  ⟨c0_i32_349, v411, c1_i32_351⟩
def k0_off32 (k0_t14 : Fin k0_t14_loop.trips) : Fin 1 → Nat :=
  let c8192_i32_413 : BitVec 32 := 8192#32
  let c0_i32_412 : BitVec 32 := 0#32
  let c0_i32_349 : BitVec 32 := 0#32
  let c1_i32_351 : BitVec 32 := 1#32
  let arg17 : BitVec 32 := Scf.iv c0_i32_349 c1_i32_351 k0_t14
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c8192_i32_413 v479
  let v481 : Index := Scalar.indexCast v480
  ![v481.toNat]

def k0_chk13 (v410 : IVec S16 32) (v482 : IVec S16 32) : Prop :=
  (∀ a x, ((![v410, v482] : Fin 2 → IVec S16 32) a x).toNat < S8x4096.size a)
theorem k0_idx13_inb : ∀ (v410 : IVec S16 32) (v482 : IVec S16 32) (k0_hw13 : k0_chk13 v410 v482), ∀ a x, ((![v410, v482] : Fin 2 → IVec S16 32) a x).toNat < S8x4096.size a := fun v410 v482 k0_hw13 => k0_hw13
def k0_off33 (k0_t14 : Fin k0_t14_loop.trips) : Fin 1 → Nat :=
  let c8192_i32_413 : BitVec 32 := 8192#32
  let c0_i32_412 : BitVec 32 := 0#32
  let c0_i32_349 : BitVec 32 := 0#32
  let c1_i32_351 : BitVec 32 := 1#32
  let arg17 : BitVec 32 := Scf.iv c0_i32_349 c1_i32_351 k0_t14
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c8192_i32_413 v479
  let v484 : Index := Scalar.indexCast v480
  ![v484.toNat]
@[reducible] def k0_t15_loop : Scf.Loop 32 :=
  let c0_i32_354 : BitVec 32 := 0#32
  let c128_i32_355 : BitVec 32 := 128#32
  let v413 : BitVec 32 := Scalar.addi c0_i32_354 c128_i32_355
  let c1_i32_356 : BitVec 32 := 1#32
  ⟨c0_i32_354, v413, c1_i32_356⟩
def k0_off34 (k0_t15 : Fin k0_t15_loop.trips) : Fin 1 → Nat :=
  let c10240_i32_413 : BitVec 32 := 10240#32
  let c0_i32_412 : BitVec 32 := 0#32
  let c0_i32_354 : BitVec 32 := 0#32
  let c1_i32_356 : BitVec 32 := 1#32
  let arg17 : BitVec 32 := Scf.iv c0_i32_354 c1_i32_356 k0_t15
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c10240_i32_413 v479
  let v481 : Index := Scalar.indexCast v480
  ![v481.toNat]

def k0_chk14 (v412 : IVec S16 32) (v482 : IVec S16 32) : Prop :=
  (∀ a x, ((![v412, v482] : Fin 2 → IVec S16 32) a x).toNat < S8x4096.size a)
theorem k0_idx14_inb : ∀ (v412 : IVec S16 32) (v482 : IVec S16 32) (k0_hw14 : k0_chk14 v412 v482), ∀ a x, ((![v412, v482] : Fin 2 → IVec S16 32) a x).toNat < S8x4096.size a := fun v412 v482 k0_hw14 => k0_hw14
def k0_off35 (k0_t15 : Fin k0_t15_loop.trips) : Fin 1 → Nat :=
  let c10240_i32_413 : BitVec 32 := 10240#32
  let c0_i32_412 : BitVec 32 := 0#32
  let c0_i32_354 : BitVec 32 := 0#32
  let c1_i32_356 : BitVec 32 := 1#32
  let arg17 : BitVec 32 := Scf.iv c0_i32_354 c1_i32_356 k0_t15
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c10240_i32_413 v479
  let v484 : Index := Scalar.indexCast v480
  ![v484.toNat]
@[reducible] def k0_t16_loop : Scf.Loop 32 :=
  let c0_i32_359 : BitVec 32 := 0#32
  let c128_i32_360 : BitVec 32 := 128#32
  let v415 : BitVec 32 := Scalar.addi c0_i32_359 c128_i32_360
  let c1_i32_361 : BitVec 32 := 1#32
  ⟨c0_i32_359, v415, c1_i32_361⟩
def k0_off36 (k0_t16 : Fin k0_t16_loop.trips) : Fin 1 → Nat :=
  let c12288_i32_413 : BitVec 32 := 12288#32
  let c0_i32_412 : BitVec 32 := 0#32
  let c0_i32_359 : BitVec 32 := 0#32
  let c1_i32_361 : BitVec 32 := 1#32
  let arg17 : BitVec 32 := Scf.iv c0_i32_359 c1_i32_361 k0_t16
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c12288_i32_413 v479
  let v481 : Index := Scalar.indexCast v480
  ![v481.toNat]

def k0_chk15 (v414 : IVec S16 32) (v482 : IVec S16 32) : Prop :=
  (∀ a x, ((![v414, v482] : Fin 2 → IVec S16 32) a x).toNat < S8x4096.size a)
theorem k0_idx15_inb : ∀ (v414 : IVec S16 32) (v482 : IVec S16 32) (k0_hw15 : k0_chk15 v414 v482), ∀ a x, ((![v414, v482] : Fin 2 → IVec S16 32) a x).toNat < S8x4096.size a := fun v414 v482 k0_hw15 => k0_hw15
def k0_off37 (k0_t16 : Fin k0_t16_loop.trips) : Fin 1 → Nat :=
  let c12288_i32_413 : BitVec 32 := 12288#32
  let c0_i32_412 : BitVec 32 := 0#32
  let c0_i32_359 : BitVec 32 := 0#32
  let c1_i32_361 : BitVec 32 := 1#32
  let arg17 : BitVec 32 := Scf.iv c0_i32_359 c1_i32_361 k0_t16
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c12288_i32_413 v479
  let v484 : Index := Scalar.indexCast v480
  ![v484.toNat]
@[reducible] def k0_t17_loop : Scf.Loop 32 :=
  let c0_i32_364 : BitVec 32 := 0#32
  let c128_i32_365 : BitVec 32 := 128#32
  let v417 : BitVec 32 := Scalar.addi c0_i32_364 c128_i32_365
  let c1_i32_366 : BitVec 32 := 1#32
  ⟨c0_i32_364, v417, c1_i32_366⟩
def k0_off38 (k0_t17 : Fin k0_t17_loop.trips) : Fin 1 → Nat :=
  let c14336_i32_413 : BitVec 32 := 14336#32
  let c0_i32_412 : BitVec 32 := 0#32
  let c0_i32_364 : BitVec 32 := 0#32
  let c1_i32_366 : BitVec 32 := 1#32
  let arg17 : BitVec 32 := Scf.iv c0_i32_364 c1_i32_366 k0_t17
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c14336_i32_413 v479
  let v481 : Index := Scalar.indexCast v480
  ![v481.toNat]

def k0_chk16 (v416 : IVec S16 32) (v482 : IVec S16 32) : Prop :=
  (∀ a x, ((![v416, v482] : Fin 2 → IVec S16 32) a x).toNat < S8x4096.size a)
theorem k0_idx16_inb : ∀ (v416 : IVec S16 32) (v482 : IVec S16 32) (k0_hw16 : k0_chk16 v416 v482), ∀ a x, ((![v416, v482] : Fin 2 → IVec S16 32) a x).toNat < S8x4096.size a := fun v416 v482 k0_hw16 => k0_hw16
def k0_off39 (k0_t17 : Fin k0_t17_loop.trips) : Fin 1 → Nat :=
  let c14336_i32_413 : BitVec 32 := 14336#32
  let c0_i32_412 : BitVec 32 := 0#32
  let c0_i32_364 : BitVec 32 := 0#32
  let c1_i32_366 : BitVec 32 := 1#32
  let arg17 : BitVec 32 := Scf.iv c0_i32_364 c1_i32_366 k0_t17
  let c1_i32_411 : BitVec 32 := 1#32
  let v477 : BitVec 32 := Scalar.muli arg17 c1_i32_411
  let v478 : BitVec 32 := Scalar.addi c0_i32_412 v477
  let c16_i32 : BitVec 32 := 16#32
  let v479 : BitVec 32 := Scalar.muli v478 c16_i32
  let v480 : BitVec 32 := Scalar.addi c14336_i32_413 v479
  let v484 : Index := Scalar.indexCast v480
  ![v484.toNat]
def k0_off40 (i : grid0.Coords) (k0_t1 : Fin k0_t1_loop.trips) (c0_i32_370 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_73 : BitVec 32 := 2#32
  let c0_i32_30 : BitVec 32 := 0#32
  let c1_i32_31 : BitVec 32 := 1#32
  let arg15 : BitVec 32 := Scf.iv c0_i32_30 c1_i32_31 k0_t1
  let v112 : BitVec 32 := Scalar.muli c2_i32_73 arg15
  let c1_i32_368 : BitVec 32 := 1#32
  let v418 : BitVec 32 := Scalar.addi v112 c1_i32_368
  let c8_i32_369 : BitVec 32 := 8#32
  let v419 : BitVec 32 := Scalar.muli v418 c8_i32_369
  let v420 : BitVec 32 := Scalar.addi v2 v419
  let v421 : BitVec 32 := Scalar.addi v420 c0_i32_370
  let c0_i32_372 : BitVec 32 := 0#32
  ![v421.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4096 : Shape := ⟨2, ![16384, 4096]⟩
abbrev S16384x2048 : Shape := ⟨2, ![16384, 2048]⟩
abbrev S_ : Shape := ⟨0, ![]⟩
abbrev S16384x2048x1 : Shape := ⟨3, ![16384, 2048, 1]⟩
abbrev S1 : Shape := ⟨1, ![1]⟩
abbrev S1x1x1 : Shape := ⟨3, ![1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2048, .i32⟩
  | .hbm, ⟨2, _⟩ => ⟨S_, .i32⟩
  | .hbm, ⟨3, _⟩ => ⟨S16384x2048, .i32⟩
  | .hbm, ⟨4, _⟩ => ⟨S16384x2048, .i1⟩
  | .hbm, ⟨5, _⟩ => ⟨S_, .i32⟩
  | .hbm, ⟨6, _⟩ => ⟨S16384x2048, .i32⟩
  | .hbm, ⟨7, _⟩ => ⟨S16384x2048, .i32⟩
  | .hbm, ⟨8, _⟩ => ⟨S16384x2048, .i32⟩
  | .hbm, ⟨9, _⟩ => ⟨S16384x2048x1, .i32⟩
  | .hbm, ⟨10, _⟩ => ⟨S1, .i32⟩
  | .hbm, ⟨11, _⟩ => ⟨S_, .i32⟩
  | .hbm, ⟨12, _⟩ => ⟨S16384x2048x1, .i32⟩
  | .hbm, ⟨13, _⟩ => ⟨S16384x2048x1, .i1⟩
  | .hbm, ⟨14, _⟩ => ⟨S1x1x1, .i32⟩
  | .hbm, ⟨15, _⟩ => ⟨S16384x2048x1, .i32⟩
  | .hbm, ⟨16, _⟩ => ⟨S16384x2048x1, .i1⟩
  | .hbm, ⟨17, _⟩ => ⟨S16384x2048x1, .i1⟩
  | .hbm, ⟨18, _⟩ => ⟨S_, .i1⟩
  | .hbm, ⟨19, _⟩ => ⟨S16384x2048, .i1⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]
-- ==== Proof.Steps.lean ====
/-
  The kernel's body read as a short program. The printed body is one long list of memory operations, cut into windows;
  here the same operations are grouped as the kernel's author wrote them: start the copies of a block (its block of `x`
  and its eight rows of `d`), wait for them, gather eight rows, start the eight row copies out, wait for those. Each
  group is defined once, for every buffer, semaphore and block, and the printed body is shown to be the grouped one.
-/
module

public import proofs.«01_k».proof.Defs
public import Idealize.ShloMosaic.Lib.SparseCore.Quiescent
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic Idealize.SL.Sem

variable {F : FTy → Type} [FloatOps F]

/-! ## The buffers a tile names -/

abbrev xV : Memref sig .scVector .hbm S16384x4096 .f32 := Memref.whole main_arg0_scv
abbrev dV : Memref sig .scVector .hbm S16384x2048 .i32 := Memref.whole main_arg1_scv
abbrev oV : Memref sig .scVector .hbm S16384x2048 .f32 := Memref.whole main_v0_scv
abbrev sx0 : Memref sig .scVector .vmem S8x4096 .f32 := Memref.whole cc0_scratch0
abbrev sx1 : Memref sig .scVector .vmem S8x4096 .f32 := Memref.whole cc0_scratch1
abbrev sd0 : Memref sig .scVector .vmem S16384 .i32 := Memref.whole cc0_scratch2
abbrev sd1 : Memref sig .scVector .vmem S16384 .i32 := Memref.whole cc0_scratch3
abbrev so : Memref sig .scVector .vmem S16384 .f32 := Memref.whole cc0_scratch4

/-- A program of the tile at grid point `i`. -/
abbrev TP (F : FTy → Type) [FloatOps F] (i : grid0.Coords) (α : Type) : Type 1 :=
  Prog (TpuEff nD τ sig (Elt F) Λ₀ (.scVector ((i 0).castLE hcore0) ((i 1).castLE hsub0))) α

variable (i : grid0.Coords)

/-- Eight steps in order. -/
def seq8 (f : Fin 8 → TP F i PUnit) : TP F i PUnit := do
  f 0; f 1; f 2; f 3; f 4; f 5; f 6; f 7

/-! ## Rows and blocks as slices -/

/-- Row `r` of a block lies inside a flat buffer of eight rows. -/
theorem inbBuf (r : Fin 8) : ∀ a, (![2048 * r.val] : Fin 1 → Nat) a + S2048.size a ≤ S16384.size a := by
  decide +revert

/-- Row `r` of a flat buffer of eight rows. -/
abbrev bufRow {e : EltTy} (b : Memref sig .scVector .vmem S16384 e) (r : Fin 8) : Memref sig .scVector .vmem S2048 e :=
  b.slice (Rect.unit (s := S16384) ![2048 * r.val] S2048.size (inbBuf r)) (fun _ => rfl)

/-- One row of a `16384 × 2048` array, as a vector. -/
abbrev arrRow {e : EltTy} (b : Memref sig .scVector .hbm S16384x2048 e) (off : Fin 2 → Nat)
    (h : ∀ a, off a + S1x2048.size a ≤ S16384x2048.size a) : Memref sig .scVector .hbm S2048 e :=
  (b.slice (Rect.unit (s := S16384x2048) off S1x2048.size h) (fun _ => rfl)).squeeze S2048 squeezes_S1x2048_S2048

/-- Eight rows of `x`. -/
abbrev xBlk (off : Fin 2 → Nat) (h : ∀ a, off a + S8x4096.size a ≤ S16384x4096.size a) : Memref sig .scVector .hbm S8x4096 .f32 :=
  xV.slice (Rect.unit (s := S16384x4096) off S8x4096.size h) (fun _ => rfl)

/-! ## The copies and their waits -/

/-- Start the copy of eight rows of `x` into the block buffer `m`. -/
def xStart (m : Memref sig .scVector .vmem S8x4096 .f32) (hm : m.IsWhole) (s : DmaSems sig S_) (off : Fin 2 → Nat)
    (h : ∀ a, off a + S8x4096.size a ≤ S16384x4096.size a) : TP F i PUnit :=
  Prog.lift (.enqueueDma (xBlk off h) (.here m) (.dma s.sem) (View.wordExact_bits rfl) hm.wordExact ⟨Or.inl rfl, trivial⟩)

/-- Wait for a block of `x`. -/
def xWait (m : Memref sig .scVector .vmem S8x4096 .f32) (hm : m.IsWhole) (s : DmaSems sig S_) : TP F i PUnit :=
  Prog.lift (.waitDma2 s.sem (xBlk ![0, 0] inb_S16384x4096_S8x4096_0_0) m (View.wordExact_bits rfl) hm.wordExact)

/-- Start the copy of one row of `d` into row `r` of the index buffer `m`. -/
def dStart (m : Memref sig .scVector .vmem S16384 .i32) (s : DmaSems sig S_) (off : Fin 8 → Fin 2 → Nat)
    (h : ∀ r a, off r a + S1x2048.size a ≤ S16384x2048.size a) (r : Fin 8) : TP F i PUnit :=
  Prog.lift (.enqueueDma (arrRow dV (off r) (h r)) (.here (bufRow m r)) (.dma s.sem)
    ((View.wordExact_bits rfl).reshape _ _) (View.wordExact_bits rfl) ⟨Or.inl rfl, trivial⟩)

/-- Wait for one row of `d`. -/
def dWait (m : Memref sig .scVector .vmem S16384 .i32) (s : DmaSems sig S_) (r : Fin 8) : TP F i PUnit :=
  Prog.lift (.waitDma2 s.sem (arrRow dV ![0, 0] inb_S16384x2048_S1x2048_0_0) (bufRow m r)
    ((View.wordExact_bits rfl).reshape _ _) (View.wordExact_bits rfl))

/-- Start the copy of row `r` of the result buffer to its row of the output. -/
def oStart (s : DmaSems sig S_) (off : Fin 8 → Fin 2 → Nat)
    (h : ∀ r a, off r a + S1x2048.size a ≤ S16384x2048.size a) (r : Fin 8) : TP F i PUnit :=
  Prog.lift (.enqueueDma (bufRow so r) (.here (arrRow oV (off r) (h r))) (.dma s.sem)
    (View.wordExact_bits rfl) ((View.wordExact_bits rfl).reshape _ _) ⟨Or.inl rfl, trivial⟩)

/-- Wait for one row of the output. -/
def oWait (s : DmaSems sig S_) (r : Fin 8) : TP F i PUnit :=
  Prog.lift (.waitDma2 s.sem (bufRow so r) (arrRow oV ![0, 0] inb_S16384x2048_S1x2048_0_0)
    (View.wordExact_bits rfl) ((View.wordExact_bits rfl).reshape _ _))

/-! ## The gather of one row -/

/-- One step of the gather: read sixteen indices, gather, write sixteen results. -/
def gStep (xm : Memref sig .scVector .vmem S8x4096 .f32) (dm : Memref sig .scVector .vmem S16384 .i32) (v : IVec S16 32)
    (oL oS : Fin 1 → Nat) (hL : ∀ a, oL a + S16.size a ≤ S16384.size a) (hS : ∀ a, oS a + S16.size a ≤ S16384.size a) :
    TP F i Unit := do
  let w : Vec F S16 .i32 ← Prog.lift (.load dm (Rect.unit (s := S16384) oL S16.size hL).toLoadRect (View.loadsAt_vmem h_S16))
  have hw : k0_chk1 v w := (← Prog.lift (TpuEff.assume (k0_chk1 v w) (k0_chk1.dec v w))).down
  let y : Vec F S16 .f32 ← SparseCore.vectorLoadIdx xm ![v, w] (k0_idx1_inb v w hw) (View.loads_vmem h_S8x4096)
  let _z : Vec F S16 .f32 ← Prog.lift (.load so (Rect.unit (s := S16384) oS S16.size hS).toLoadRect (View.loadsAt_vmem h_S16))
  Prog.lift (.store so (Rect.unit (s := S16384) oS S16.size hS) y Finset.univ (View.stores_vmem_bits_univ h_S16 rfl) (.inl rfl))
  pure ⟨⟩

/-- The gather of row `r`: its 128 steps. -/
def gRow (xm : Memref sig .scVector .vmem S8x4096 .f32) (dm : Memref sig .scVector .vmem S16384 .i32)
    (oL oS : Fin 8 → Fin k0_t2_loop.trips → Fin 1 → Nat)
    (hL : ∀ r k a, oL r k a + S16.size a ≤ S16384.size a) (hS : ∀ r k a, oS r k a + S16.size a ≤ S16384.size a) (r : Fin 8) :
    TP F i PUnit :=
  Scf.Loop.for k0_t2_loop k0_t2_ok ⟨⟩
    (fun k _ => gStep i xm dm (broadcast S16 (BitVec.ofNat 32 r.val)) (oL r k) (oS r k) (hL r k) (hS r k))

/-- Where the steps of the first gather of a trip read and write, by row. -/
def offL0 : Fin 8 → Fin k0_t2_loop.trips → Fin 1 → Nat :=
  ![k0_off5, k0_off7, k0_off9, k0_off11, k0_off13, k0_off15, k0_off17, k0_off19]
def offS0 : Fin 8 → Fin k0_t2_loop.trips → Fin 1 → Nat :=
  ![k0_off6, k0_off8, k0_off10, k0_off12, k0_off14, k0_off16, k0_off18, k0_off20]
/-- Where the steps of the second gather of a trip read and write, by row. -/
def offL1 : Fin 8 → Fin k0_t2_loop.trips → Fin 1 → Nat :=
  ![k0_off24, k0_off26, k0_off28, k0_off30, k0_off32, k0_off34, k0_off36, k0_off38]
def offS1 : Fin 8 → Fin k0_t2_loop.trips → Fin 1 → Nat :=
  ![k0_off25, k0_off27, k0_off29, k0_off31, k0_off33, k0_off35, k0_off37, k0_off39]

/-- Step `k` of row `r` works at element `2048 r + 16 k` of the flat buffers. -/
theorem offL0_eq : ∀ (r : Fin 8) (k : Fin k0_t2_loop.trips), offL0 r k = ![2048 * r.val + 16 * k.val] := by decide +kernel
theorem offS0_eq : ∀ (r : Fin 8) (k : Fin k0_t2_loop.trips), offS0 r k = ![2048 * r.val + 16 * k.val] := by decide +kernel
theorem offL1_eq : ∀ (r : Fin 8) (k : Fin k0_t2_loop.trips), offL1 r k = ![2048 * r.val + 16 * k.val] := by decide +kernel
theorem offS1_eq : ∀ (r : Fin 8) (k : Fin k0_t2_loop.trips), offS1 r k = ![2048 * r.val + 16 * k.val] := by decide +kernel

/-- Such a step stays inside the buffers. -/
theorem inbStep (r : Fin 8) (k : Fin k0_t2_loop.trips) :
    ∀ a, (![2048 * r.val + 16 * k.val] : Fin 1 → Nat) a + S16.size a ≤ S16384.size a := by
  decide +kernel +revert

/-- Every step's sixteen elements are inside the buffers. -/
theorem inb_of_eq {o : Fin 8 → Fin k0_t2_loop.trips → Fin 1 → Nat} (h : ∀ r k, o r k = ![2048 * r.val + 16 * k.val]) :
    ∀ r k a, o r k a + S16.size a ≤ S16384.size a := fun r k a => by rw [h]; exact inbStep r k a

/-! ## A trip of the loop, and the body -/

/-- One trip: two blocks, each waited for, gathered and sent out, while the next one's copies run. -/
def trip (t : Fin k0_t1_loop.trips) : TP F i (BitVec 32) := do
  xStart i sx1 (Memref.isWhole_whole _) cc0_scratch6 (k0_off3 i t) (k0_off3_inb i t)
  seq8 i (dStart i sd1 cc0_scratch8 (fun r => k0_off4 i t (BitVec.ofNat 32 r.val)) (k0_off4_inb i t))
  xWait i sx0 (Memref.isWhole_whole _) cc0_scratch5
  seq8 i (dWait i sd0 cc0_scratch7)
  (if Scalar.cmpi .ne (Scalar.extui (Scalar.cmpi .sgt (Scf.iv 0#32 1#32 t) 0#32) : BitVec 32) 0#32 = 1#1 then
    seq8 i (oWait i cc0_scratch9) else pure ⟨⟩)
  seq8 i (gRow i sx0 sd0 offL0 offS0 (inb_of_eq offL0_eq) (inb_of_eq offS0_eq))
  seq8 i (oStart i cc0_scratch9 (fun r => k0_off21 i t (BitVec.ofNat 32 r.val)) (k0_off21_inb i t))
  (if h : k0_cond2 t = 1#1 then do
    xStart i sx0 (Memref.isWhole_whole _) cc0_scratch5 (k0_off22 i t) (k0_off22_inb i t h)
    seq8 i (dStart i sd0 cc0_scratch7 (fun r => k0_off23 i t (BitVec.ofNat 32 r.val)) (k0_off23_inb i t h))
   else pure ⟨⟩)
  xWait i sx1 (Memref.isWhole_whole _) cc0_scratch6
  seq8 i (dWait i sd1 cc0_scratch8)
  seq8 i (oWait i cc0_scratch9)
  seq8 i (gRow i sx1 sd1 offL1 offS1 (inb_of_eq offL1_eq) (inb_of_eq offS1_eq))
  seq8 i (oStart i cc0_scratch9 (fun r => k0_off40 i t (BitVec.ofNat 32 r.val)) (k0_off40_inb i t))
  pure 0#32

/-- The body: the first block's copies started, the trips, the last block's rows waited for. -/
def body : TP F i PUnit := do
  xStart i sx0 (Memref.isWhole_whole _) cc0_scratch5 (k0_off1 i) (k0_off1_inb i)
  seq8 i (dStart i sd0 cc0_scratch7 (fun r => k0_off2 i (BitVec.ofNat 32 r.val)) (k0_off2_inb i))
  let _ ← Scf.Loop.for k0_t1_loop k0_t1_ok 0#32 (fun t _ => trip i t)
  seq8 i (oWait i cc0_scratch9)

/-- Two sequences with equal heads and equal tails are equal. -/
theorem bcongr.{v} {E : Type → Type v} {α β : Type} {a a' : Prog E α} {k k' : α → Prog E β} (h : a = a') (h' : ∀ x, k x = k' x) :
    (a >>= k) = (a' >>= k') := by
  subst h; rw [funext h']

/-- The window holding the end of the first wait, the wait for the previous block's rows and the first row's gather. -/
theorem part6_eq (a : BitVec 32) :
    k0_part6 (F := F) i xV (Memref.isWhole_whole _) dV (Memref.isWhole_whole _) oV (Memref.isWhole_whole _)
      sx0 (Memref.isWhole_whole _) sx1 (Memref.isWhole_whole _) sd0 (Memref.isWhole_whole _) sd1 (Memref.isWhole_whole _)
      so (Memref.isWhole_whole _) cc0_scratch5 cc0_scratch6 cc0_scratch7 cc0_scratch8 cc0_scratch9 a
    = (do
        dWait i sd0 cc0_scratch7 4; dWait i sd0 cc0_scratch7 5; dWait i sd0 cc0_scratch7 6; dWait i sd0 cc0_scratch7 7
        (if Scalar.cmpi .ne (Scalar.extui (Scalar.cmpi .sgt a 0#32) : BitVec 32) 0#32 = 1#1 then
          seq8 i (oWait i cc0_scratch9) else pure ⟨⟩)
        gRow i sx0 sd0 offL0 offS0 (inb_of_eq offL0_eq) (inb_of_eq offS0_eq) 0
        pure ⟨k0_pay1, 0#32, 1#32⟩) := by
  simp only [k0_part6_eq_skeleton, k0_part6_skel, k0_part1_eq_skeleton, k0_part1_skel, seq8, bind_assoc, pure_bind]
  iterate 4 refine bcongr (Eq.refl _) fun _ => ?_
  split
  · simp only [bind_assoc]
    iterate 9 refine bcongr (Eq.refl _) fun _ => ?_
    rfl
  · rw [pure_bind]
    refine bcongr (Eq.refl _) fun _ => ?_
    rfl

/-- The window holding the end of the first block's rows' start, the next block's copies and the second wait. -/
theorem part9_eq (t : Fin k0_t1_loop.trips) (v2 a v112 v : BitVec 32) :
    k0_part9 (F := F) i xV (Memref.isWhole_whole _) dV (Memref.isWhole_whole _) oV (Memref.isWhole_whole _)
      sx0 (Memref.isWhole_whole _) sx1 (Memref.isWhole_whole _) sd0 (Memref.isWhole_whole _) sd1 (Memref.isWhole_whole _)
      so (Memref.isWhole_whole _) cc0_scratch5 cc0_scratch6 cc0_scratch7 cc0_scratch8 cc0_scratch9 v2 t a v112 v
    = (do
        oStart i cc0_scratch9 (fun r => k0_off21 i t (BitVec.ofNat 32 r.val)) (k0_off21_inb i t) 5
        oStart i cc0_scratch9 (fun r => k0_off21 i t (BitVec.ofNat 32 r.val)) (k0_off21_inb i t) 6
        oStart i cc0_scratch9 (fun r => k0_off21 i t (BitVec.ofNat 32 r.val)) (k0_off21_inb i t) 7
        (if h : k0_cond2 t = 1#1 then do
          xStart i sx0 (Memref.isWhole_whole _) cc0_scratch5 (k0_off22 i t) (k0_off22_inb i t h)
          seq8 i (dStart i sd0 cc0_scratch7 (fun r => k0_off23 i t (BitVec.ofNat 32 r.val)) (k0_off23_inb i t h))
         else pure ⟨⟩)
        xWait i sx1 (Memref.isWhole_whole _) cc0_scratch6) := by
  simp only [k0_part9_eq_skeleton, k0_part9_skel, k0_part2_eq_skeleton, k0_part2_skel, seq8, bind_assoc, pure_bind]
  iterate 3 refine bcongr (Eq.refl _) fun _ => ?_
  split
  · simp only [bind_assoc]
    iterate 9 refine bcongr (Eq.refl _) fun _ => ?_
    rfl
  · rw [pure_bind]
    rfl

/-- The printed trip is the grouped one. -/
theorem trip_eq (t : Fin k0_t1_loop.trips) (acc v2 : BitVec 32) :
    k0_t1_body (F := F) i xV (Memref.isWhole_whole _) dV (Memref.isWhole_whole _) oV (Memref.isWhole_whole _)
      sx0 (Memref.isWhole_whole _) sx1 (Memref.isWhole_whole _) sd0 (Memref.isWhole_whole _) sd1 (Memref.isWhole_whole _)
      so (Memref.isWhole_whole _) cc0_scratch5 cc0_scratch6 cc0_scratch7 cc0_scratch8 cc0_scratch9 v2 0#32 0#32 t acc
      = trip i t := by
  unfold k0_t1_body trip
  simp only [k0_part15_eq_skeleton, k0_part15_skel, k0_part3_eq_skeleton, k0_part3_skel, k0_part4_eq_skeleton, k0_part4_skel,
    k0_part5_eq_skeleton, k0_part5_skel, part6_eq, k0_part7_eq_skeleton, k0_part7_skel,
    k0_part8_eq_skeleton, k0_part8_skel, part9_eq, k0_part10_eq_skeleton, k0_part10_skel,
    k0_part11_eq_skeleton, k0_part11_skel, k0_part12_eq_skeleton, k0_part12_skel, k0_part13_eq_skeleton, k0_part13_skel,
    k0_part14_eq_skeleton, k0_part14_skel, seq8, bind_assoc, pure_bind]
  iterate 18 refine bcongr (Eq.refl _) fun _ => ?_
  refine bcongr (Eq.refl _) fun _ => ?_
  iterate 8 refine bcongr (Eq.refl _) fun _ => ?_
  iterate 8 refine bcongr (Eq.refl _) fun _ => ?_
  refine bcongr (Eq.refl _) fun _ => ?_
  iterate 9 refine bcongr (Eq.refl _) fun _ => ?_
  iterate 8 refine bcongr (Eq.refl _) fun _ => ?_
  iterate 8 refine bcongr (Eq.refl _) fun _ => ?_
  iterate 8 refine bcongr (Eq.refl _) fun _ => ?_
  rfl

/-- The printed body is the grouped one. -/
theorem body_eq :
    cc0__sc_gather_body (F := F) i xV (Memref.isWhole_whole _) dV (Memref.isWhole_whole _) oV (Memref.isWhole_whole _)
      sx0 (Memref.isWhole_whole _) sx1 (Memref.isWhole_whole _) sd0 (Memref.isWhole_whole _) sd1 (Memref.isWhole_whole _)
      so (Memref.isWhole_whole _) cc0_scratch5 cc0_scratch6 cc0_scratch7 cc0_scratch8 cc0_scratch9
      = body i := by
  simp only [cc0__sc_gather_body_eq_skeleton, cc0__sc_gather_body_skel, body, k0_part16_eq_skeleton, k0_part16_skel,
    k0_part17_eq_skeleton, k0_part17_skel, k0_part18_eq_skeleton, k0_part18_skel, seq8, bind_assoc, pure_bind]
  iterate 9 refine bcongr (Eq.refl _) fun _ => ?_
  refine bcongr ?_ fun _ => ?_
  · congr 1
    funext t acc
    exact trip_eq i t acc _
  iterate 7 refine bcongr (Eq.refl _) fun _ => ?_
  rfl

end Cert.Proof.Tile
-- ==== Proof.Pieces.lean ====
/-
  What the kernel computes, and the pieces its memory is cut into. `G` is the result: each element of a row of the output
  is the element of the same row of `x` that `d` names. A tile works on blocks of eight rows: a block of `x` (`XB`), the
  eight rows of `d` and of the output laid end to end in a flat buffer (`flat`). Here each slice the kernel copies from or
  to is identified with the set of elements it covers and with what it reads.
-/
module

public import proofs.«01_k».proof.Proof.Steps
public import Idealize.ShloMosaic.Lib.Batch
public import Idealize.ShloMosaic.Lib.ValueIdxCore
public import Idealize.ShloMosaic.Lib.Pipeline.Frame

@[expose] public section

noncomputable section

namespace Cert.Proof.Tile

open Cert.KernelIdeal Cert.KernelIdeal.Gen
open Idealize.ShloMosaic Idealize.ShloMosaic.ValueIdx Idealize.SL.Sem

variable {F : FTy → Type} [FloatOps F]

/-! ## Values -/

/-- Row `a` after row `n`. -/
def rowOf (n a : ℕ) : Fin 16384 := ⟨(n + a) % 16384, Nat.mod_lt _ (by decide)⟩

theorem rowOf_val {n a : ℕ} (h : n + a < 16384) : (rowOf n a).val = n + a := Nat.mod_eq_of_lt h

/-- The result: element `(i, j)` is `x (i, d (i, j))`. -/
def G (X : S16384x4096.Idx → Elt F .f32) (D : S16384x2048.Idx → Elt F .i32) : S16384x2048.Idx → Elt F .f32 :=
  fun j => X (ix2 (j 0) ⟨(D j).toNat % 4096, Nat.mod_lt _ (by decide)⟩)

/-- The eight rows of `x` from row `n` on. -/
def XB (X : S16384x4096.Idx → Elt F .f32) (n : ℕ) : S8x4096.Idx → Elt F .f32 :=
  fun j => X (ix2 (rowOf n (j 0).val) (j 1))

/-- The eight rows of an array from row `n` on, laid end to end. -/
def flat {α : Type} (A : S16384x2048.Idx → α) (n : ℕ) : S16384.Idx → α :=
  fun j => A (ix2 (rowOf n ((j 0).val / 2048)) ⟨(j 0).val % 2048, Nat.mod_lt _ (by decide)⟩)

/-! ## Pieces -/

/-- Row `n` of a `16384 × 2048` array. -/
def rowSet (n : ℕ) : Finset S16384x2048.Idx := Finset.univ.filter fun j => (j 0).val = n

/-- The eight rows of `x` from row `n` on. -/
def xSet (n : ℕ) : Finset S16384x4096.Idx := Finset.univ.filter fun j => n ≤ (j 0).val ∧ (j 0).val < n + 8

/-- A slice of one row places its `k`-th element in column `k`. -/
theorem arrRow_emb {e : EltTy} (b : Memref sig .scVector .hbm S16384x2048 e) (n : ℕ) (hn : n < 16384)
    (h : ∀ a, (![n, 0] : Fin 2 → ℕ) a + S1x2048.size a ≤ S16384x2048.size a) (x : S2048.Idx) :
    (arrRow b ![n, 0] h).view.emb x = b.view.emb (ix2 ⟨n, hn⟩ (x 0)) := by
  show b.view.emb ((Rect.unit (s := S16384x2048) ![n, 0] S1x2048.size h).emb
    (Shape.reshapeEquiv squeezes_S1x2048_S2048.numel_eq x)) = _
  congr 1
  have e := Shape.reshapeEquiv_cons_one (n := 1) (d := ![2048]) squeezes_S1x2048_S2048.numel_eq x
  erw [e]
  funext a
  refine Fin.ext ?_
  match a with
  | ⟨0, _⟩ => show n + 1 * 0 = n; omega
  | ⟨1, _⟩ => show 0 + 1 * (x 0).val = (x 0).val; omega

/-- Row `r` of a flat buffer places its `k`-th element at `2048 r + k`. -/
theorem bufRow_emb {e : EltTy} (b : Memref sig .scVector .vmem S16384 e) (r : Fin 8) (x : S2048.Idx)
    (h : 2048 * r.val + (x 0).val < 16384) :
    (bufRow b r).view.emb x = b.view.emb (ix1 ⟨2048 * r.val + (x 0).val, h⟩) := by
  show b.view.emb ((Rect.unit (s := S16384) ![2048 * r.val] S2048.size (inbBuf r)).emb x) = _
  congr 1
  funext a
  refine Fin.ext ?_
  match a with
  | ⟨0, _⟩ => show 2048 * r.val + 1 * (x 0).val = 2048 * r.val + (x 0).val; omega

theorem bufRow_lt (r : Fin 8) (x : S2048.Idx) : 2048 * r.val + (x 0).val < 16384 := by
  have h1 := r.isLt
  have h2 : (x 0).val < 2048 := (x 0).isLt
  omega

/-- A slice of eight rows of `x` places its element in the row counted from its first. -/
theorem xBlk_emb (n : ℕ) (h : ∀ a, (![n, 0] : Fin 2 → ℕ) a + S8x4096.size a ≤ S16384x4096.size a) (x : S8x4096.Idx) :
    (xBlk ![n, 0] h).view.emb x = ix2 (rowOf n (x 0).val) (x 1) := by
  have h0 : n + 8 ≤ 16384 := h 0
  have hx : (x 0).val < 8 := (x 0).isLt
  show (Rect.unit (s := S16384x4096) ![n, 0] S8x4096.size h).emb x = _
  funext a
  refine Fin.ext ?_
  match a with
  | ⟨0, _⟩ => show n + 1 * (x 0).val = (rowOf n (x 0).val).val; rw [rowOf_val (by omega)]; omega
  | ⟨1, _⟩ => show 0 + 1 * (x 1).val = (x 1).val; omega

/-- The elements under a slice of one row of `d`. -/
theorem set_dRow (n : ℕ) (h : ∀ a, (![n, 0] : Fin 2 → ℕ) a + S1x2048.size a ≤ S16384x2048.size a) :
    (arrRow dV ![n, 0] h).view.set = rowSet n := by
  have hn : n + 1 ≤ 16384 := h 0
  ext i
  show i ∈ Finset.univ.map (arrRow dV ![n, 0] h).view.emb ↔ _
  rw [Finset.mem_map, rowSet, Finset.mem_filter]
  constructor
  · rintro ⟨x, -, rfl⟩
    rw [arrRow_emb dV n (by omega)]
    exact ⟨Finset.mem_univ _, rfl⟩
  · rintro ⟨-, hi⟩
    refine ⟨ix1 (i 1), Finset.mem_univ _, ?_⟩
    rw [arrRow_emb dV n (by omega)]
    show ix2 _ (i 1) = i
    funext a
    refine Fin.ext ?_
    match a with
    | ⟨0, _⟩ => exact hi.symm
    | ⟨1, _⟩ => rfl

/-- The elements under a slice of one row of the output. -/
theorem set_oRow (n : ℕ) (h : ∀ a, (![n, 0] : Fin 2 → ℕ) a + S1x2048.size a ≤ S16384x2048.size a) :
    (arrRow oV ![n, 0] h).view.set = rowSet n := set_dRow n h

/-- The elements under a slice of eight rows of `x`. -/
theorem set_xBlk (n : ℕ) (h : ∀ a, (![n, 0] : Fin 2 → ℕ) a + S8x4096.size a ≤ S16384x4096.size a) :
    (xBlk ![n, 0] h).view.set = xSet n := by
  have h0 : n + 8 ≤ 16384 := h 0
  ext i
  show i ∈ Finset.univ.map (xBlk ![n, 0] h).view.emb ↔ _
  rw [Finset.mem_map, xSet, Finset.mem_filter]
  constructor
  · rintro ⟨x, -, rfl⟩
    have hx : (x 0).val < 8 := (x 0).isLt
    rw [xBlk_emb]
    refine ⟨Finset.mem_univ _, ?_⟩
    show n ≤ (rowOf n (x 0).val).val ∧ (rowOf n (x 0).val).val < n + 8
    rw [rowOf_val (by omega)]; omega
  · rintro ⟨-, hi⟩
    refine ⟨ix2 ⟨(i 0).val - n, by omega⟩ (i 1), Finset.mem_univ _, ?_⟩
    rw [xBlk_emb]
    funext a
    refine Fin.ext ?_
    match a with
    | ⟨0, _⟩ =>
      show (rowOf n ((i 0).val - n)).val = (i 0).val
      rw [rowOf_val (by omega)]; omega
    | ⟨1, _⟩ => rfl

/-- An element of a flat buffer lies in the row its place names. -/
theorem mem_bufRow {e : EltTy} (b : Memref sig .scVector .vmem S16384 e) (r : Fin 8) (x : S16384.Idx) :
    b.view.emb x ∈ (bufRow b r).view.set ↔ (x 0).val / 2048 = r.val := by
  show b.view.emb x ∈ Finset.univ.map (bufRow b r).view.emb ↔ _
  rw [Finset.mem_map]
  constructor
  · rintro ⟨y, -, hy⟩
    rw [bufRow_emb b r y (bufRow_lt r y)] at hy
    have e := b.view.emb.injective hy
    have : (x 0).val = 2048 * r.val + (y 0).val := by rw [← e]
    have h2 : (y 0).val < 2048 := (y 0).isLt
    omega
  · intro hx
    refine ⟨ix1 ⟨(x 0).val % 2048, Nat.mod_lt _ (by decide)⟩, Finset.mem_univ _, ?_⟩
    rw [bufRow_emb b r _ (bufRow_lt r _)]
    congr 1
    funext a
    refine Fin.ext ?_
    match a with
    | ⟨0, _⟩ =>
      show 2048 * r.val + (x 0).val % 2048 = (x 0).val
      omega

/-- The rows of a flat buffer are apart. -/
theorem bufRow_disjoint {e : EltTy} (b : Memref sig .scVector .vmem S16384 e) (hb : b.IsWhole) :
    ∀ r ∈ (Finset.univ : Finset (Fin 8)), ∀ r' ∈ (Finset.univ : Finset (Fin 8)), r ≠ r' →
      Disjoint (bufRow b r).view.set (bufRow b r').view.set := by
  intro r _ r' _ hne
  rw [Finset.disjoint_left]
  intro i hi hi'
  obtain ⟨x, -, rfl⟩ := Finset.mem_map.mp (hb.set_eq_univ ▸ Finset.mem_univ i : i ∈ b.view.set)
  rw [mem_bufRow] at hi hi'
  exact hne (Fin.ext (hi.symm.trans hi'))

/-- The rows of a flat buffer cover it. -/
theorem bufRow_cover {e : EltTy} (b : Memref sig .scVector .vmem S16384 e) (hb : b.IsWhole) (i : b.view.ty.Idx) :
    ∃ r : Fin 8, i ∈ (bufRow b r).view.set := by
  obtain ⟨x, -, rfl⟩ := Finset.mem_map.mp (hb.set_eq_univ ▸ Finset.mem_univ i : i ∈ b.view.set)
  have hx : (x 0).val < 16384 := (x 0).isLt
  exact ⟨⟨(x 0).val / 2048, by omega⟩, (mem_bufRow b _ x).mpr rfl⟩

/-! ## What the slices read -/

/-- A slice of eight rows of `x` reads those rows. -/
theorem read_xBlk (n : ℕ) (h : ∀ a, (![n, 0] : Fin 2 → ℕ) a + S8x4096.size a ≤ S16384x4096.size a)
    (X : S16384x4096.Idx → Elt F .f32) : (xBlk ![n, 0] h).view.read (Elt F) X = XB X n := by
  funext x
  show X ((xBlk ![n, 0] h).view.emb x) = _
  rw [xBlk_emb]; rfl

/-- A slice of row `n + r` of `d` reads row `r` of the block that starts at row `n`. -/
theorem read_dRow (n : ℕ) (r : Fin 8) (hn : n + 8 ≤ 16384)
    (h : ∀ a, (![n + r.val, 0] : Fin 2 → ℕ) a + S1x2048.size a ≤ S16384x2048.size a)
    (D : S16384x2048.Idx → Elt F .i32) (dm : Memref sig .scVector .vmem S16384 .i32) (hd : dm.IsWhole) :
    (arrRow dV ![n + r.val, 0] h).view.read (Elt F) D = (bufRow dm r).view.read (Elt F) (hd.unread (flat D n)) := by
  have hr := r.isLt
  funext x
  have hx : (x 0).val < 2048 := (x 0).isLt
  have e1 : (bufRow dm r).view.read (Elt F) (hd.unread (flat D n)) x
      = dm.view.read (Elt F) (hd.unread (flat D n)) ((Rect.unit (s := S16384) ![2048 * r.val] S2048.size (inbBuf r)).emb x) := rfl
  rw [e1, hd.read_unread]
  show D ((arrRow dV ![n + r.val, 0] h).view.emb x) = _
  rw [arrRow_emb dV _ (by omega)]
  show D (ix2 _ _) = D (ix2 _ _)
  congr 1
  funext a
  refine Fin.ext ?_
  match a with
  | ⟨0, _⟩ =>
    show n + r.val = (rowOf n ((2048 * r.val + 1 * (x 0).val) / 2048)).val
    rw [rowOf_val (by omega)]; omega
  | ⟨1, _⟩ => show (x 0).val = (2048 * r.val + 1 * (x 0).val) % 2048; omega

/-- Row `r` of the result buffer at a block of an array reads what the slice of row `n + r` of the output reads of it. -/
theorem read_oRow (n : ℕ) (r : Fin 8) (hn : n + 8 ≤ 16384)
    (h : ∀ a, (![n + r.val, 0] : Fin 2 → ℕ) a + S1x2048.size a ≤ S16384x2048.size a)
    (A : S16384x2048.Idx → Elt F .f32) :
    (bufRow so r).view.read (Elt F) (flat A n) = (arrRow oV ![n + r.val, 0] h).view.read (Elt F) A := by
  have hr := r.isLt
  funext x
  have hx : (x 0).val < 2048 := (x 0).isLt
  show flat A n ((bufRow so r).view.emb x) = A ((arrRow oV ![n + r.val, 0] h).view.emb x)
  rw [arrRow_emb oV _ (by omega), bufRow_emb so r x (bufRow_lt r x)]
  show A (ix2 _ _) = A (ix2 _ _)
  congr 1
  funext a
  refine Fin.ext ?_
  match a with
  | ⟨0, _⟩ =>
    show (rowOf n ((2048 * r.val + (x 0).val) / 2048)).val = n + r.val
    rw [rowOf_val (by omega)]; omega
  | ⟨1, _⟩ => show (2048 * r.val + (x 0).val) % 2048 = (x 0).val; omega

/-- Two contents a view reads alike agree on the view's elements. -/
theorem eqOn_of_read {κ : Kind} {sp : Space} {s : Shape} {e : EltTy} {Val : EltTy → Type} (v : View sig κ sp s e)
    (f g : v.ty.Contents Val) (h : v.read Val f = v.read Val g) : ∀ i ∈ v.set, f i = g i := by
  intro i hi
  obtain ⟨x, -, rfl⟩ := Finset.mem_map.mp hi
  have := congrFun h x
  rw [View.read_apply, View.read_apply] at this
  exact (cast_bijective _).1 this

end Cert.Proof.Tile
-- ==== Proof.Base.lean ====
/-
  The setting of the proof: the program as the launch theorem sees it, the resource algebra, the arrays' places, and
  three small tools — a rule for eight steps in order, a way to run a proved step under a continuation, and a buffer cut
  along a family of element sets.
-/
module

public import proofs.«01_k».proof.Proof.Pieces

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are the launch's own, and no tile's buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The arrays' places -/

/-- `x`, `d` and the output on device `d`. -/
abbrev xLoc (d : Dev nD) : Loc nD τ sig := (SparseCore.T d).loc main_arg0
abbrev dLoc (d : Dev nD) : Loc nD τ sig := (SparseCore.T d).loc main_arg1
abbrev oLoc (d : Dev nD) : Loc nD τ sig := (SparseCore.T d).loc main_v0

/-- The tile at grid point `i`. -/
abbrev thr (d : Dev nD) (i : grid0.Coords) : Thread nD τ := V d ((i 0).castLE hcore0) ((i 1).castLE hsub0)

variable [FloatOps F]

/-- A tile's program runs, ending with `Q`. -/
abbrev runs (d : Dev nD) (i : grid0.Coords) {α : Type} (p : TP F i α) (Q : α → sProp 𝕄) : sProp 𝕄 :=
  wp frame (wpE (defs₀ (F := F)) 𝒱₀ (thr d i) none) Set.univ p Q

variable {d : Dev nD} {i : grid0.Coords}

/-- A proved step, run under a continuation. -/
theorem runs_use {α : Type} {p : TP F i α} {P : sProp 𝕄} {Q Q' : α → sProp 𝕄} (h : P ⊢ runs d i p Q) :
    P ⊢ iprop((∀ a, Q a -∗ Q' a) -∗ runs d i p Q') :=
  h.trans (wp_wand frame _ _)

/-- A program that returns at once. -/
theorem runs_ret {α : Type} (a : α) {Q : α → sProp 𝕄} : Q a ⊢ runs d i (.ret a) Q := by
  rw [runs, wp_ret]; exact fupd_intro

/-- Eight steps in order, by what holds before each. -/
theorem runs_seq8 {f : Fin 8 → TP F i PUnit} (I : ℕ → sProp 𝕄)
    (h : ∀ r : Fin 8, I r.val ⊢ runs d i (f r) (fun _ => I (r.val + 1))) :
    I 0 ⊢ runs d i (seq8 i f) (fun _ => I 8) := by
  unfold seq8
  simp only [runs, wp_bind]
  refine (h 0).trans (wp_mono frame _ _ fun _ => ?_)
  refine (h 1).trans (wp_mono frame _ _ fun _ => ?_)
  refine (h 2).trans (wp_mono frame _ _ fun _ => ?_)
  refine (h 3).trans (wp_mono frame _ _ fun _ => ?_)
  refine (h 4).trans (wp_mono frame _ _ fun _ => ?_)
  refine (h 5).trans (wp_mono frame _ _ fun _ => ?_)
  refine (h 6).trans (wp_mono frame _ _ fun _ => ?_)
  exact h 7

omit [FloatOps F] in
/-- A buffer held whole is the pieces of a family that cuts it. -/
theorem pointsTo_cut {T : Type} [Fintype T] {ℓ : Loc nD τ sig} (K : T → Finset (Idx ℓ)) (q : PosShare TreeShare)
    (f : Buf (Elt F) ℓ) (hd : ∀ t ∈ (Finset.univ : Finset T), ∀ t' ∈ (Finset.univ : Finset T), t ≠ t' → Disjoint (K t) (K t'))
    (hc : ∀ i, ∃ t, i ∈ K t) :
    (ℓ ↦{q} f : sProp 𝕄) = bigSep Finset.univ fun t => ℓ ↦[K t]{q} f := by
  rw [← pointsTo_biUnion Finset.univ K hd]
  congr 1
  ext i
  simp [hc i]

end Cert.Proof.Tile
-- ==== Proof.Copies.lean ====
/-
  The copies and their waits, one rule each. A block of `x` is one copy on a semaphore of its own; the eight rows of `d`,
  and the eight rows of the output, are eight copies on one semaphore, all started before any is waited for, so that what
  each brings is known once all eight have landed. A copy in flight holds the place it writes; what it brings is stated
  when it starts: the block of `x`, the block of `d`, the rows of the result.
-/
module

public import proofs.«01_k».proof.Proof.Base

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)
variable (X : S16384x4096.Idx → Elt F .f32) (D : S16384x2048.Idx → Elt F .i32)

/-! ## What a tile owes -/

/-- The tile owes what it owed, and has waited only for what it waited for before or for its own copies. -/
def owed (O : CellTallies nD τ sig (HIx 1)) (W : Waits sig (HIx 1)) : sProp 𝕄 :=
  iprop(∃ W', ⌜∀ p ∈ W', p ∈ W ∨ p.2 = none⌝ ∗ owes (thr d i) O W')

/-- A semaphore of the tile at rest. -/
abbrev rest (s : DmaSems sig S_) : sProp 𝕄 := semVal (thr d i, .dma s.sem) 0

/-- One delivery alone. -/
theorem bigSep_one (Φ : Fin 1 → sProp 𝕄) : bigSep Finset.univ Φ = Φ 0 := by
  rw [show (Finset.univ : Finset (Fin 1)) = {0} from rfl, bigSep_singleton]

/-! ## Blocks of `x` -/

/-- The eight rows of `x` from row `n` on, to read. -/
abbrev xWin (n : ℕ) : sProp 𝕄 := xLoc d ↦[xSet n]{fullShare.right} X

/-- A block buffer at whatever it holds. -/
abbrev xFree (m : Memref sig .scVector .vmem S8x4096 .f32) : sProp 𝕄 := iprop(∃ f, m.view.loc (thr d i) ↦{fullShare} f)

/-- A block buffer holding the block of `x` at row `n`. -/
abbrev xHas (m : Memref sig .scVector .vmem S8x4096 .f32) (hm : m.IsWhole) (n : ℕ) : sProp 𝕄 :=
  m.view.loc (thr d i) ↦{fullShare} hm.unread (XB X n)

/-- The copy of the block of `x` at row `n` into a block buffer, in flight. -/
abbrev xFly (m : Memref sig .scVector .vmem S8x4096 .f32) (hm : m.IsWhole) (s : DmaSems sig S_) (n : ℕ) : sProp 𝕄 :=
  Transfers.Batch (EC (F := F)) (thr d i) (.dma s.sem) none m.view.dmaCredit (fun _ : Fin 1 => xHas d i X m hm n) 1 0

/-- Starting the copy of a block of `x`. -/
theorem xStart_rule (m : Memref sig .scVector .vmem S8x4096 .f32) (hm : m.IsWhole) (s : DmaSems sig S_) (n : ℕ) (off : Fin 2 → ℕ)
    (h : ∀ a, off a + S8x4096.size a ≤ S16384x4096.size a) (ho : off = ![n, 0]) :
    iprop(xWin d X n ∗ xFree d i m ∗ rest d i s) ⊢ runs d i (xStart i m hm s off h) (fun _ => xFly d i X m hm s n) := by
  subst ho
  iintro ⟨Hx, ⟨%f, Hm⟩, Hs⟩
  imod (Transfers.batch_alloc' (EC (F := F)) (thr d i) none m.view.dmaCredit (fun _ : Fin 1 => xHas d i X m hm n)
    (sm := .dma s.sem) (E := Set.univ)) $$ Hs with HB
  have hset : ((xBlk ![n, 0] h).view.loc (thr d i) ↦[(xBlk ![n, 0] h).view.set]{fullShare.right} X : sProp 𝕄) = xWin d X n := by
    rw [set_xBlk n h]
  unfold xStart
  iapply (Transfers.wp_dmaBatch (EC (F := F)) 𝒱₀ (thr d i) none (src := xBlk ![n, 0] h) (dst := m)
    (D := fun _ : Fin 1 => xHas d i X m hm n) (j := 0) (u := 0) (q := fullShare.right) (fs := X) (fd := f) (Sd := Finset.univ)
    none m.view.dmaCredit rfl (Finset.subset_univ _) (by decide) (by omega) ?_) $$ [Hx Hm HB]
  · refine sep_elim_left.trans (Entails.of_eq (pointsTo_congr ?_))
    intro j _
    refine eqOn_of_read m.view _ _ ?_ j (hm.set_eq_univ ▸ Finset.mem_univ j)
    rw [View.read_write_univ, hm.read_unread]
    exact read_xBlk n h X
  · isplitl [Hx]
    · rw [hset]; iexact Hx
    isplitl [Hm]
    · iexact Hm
    iexact HB
  iintro HB
  rw [wp_ret]
  imodintro
  iexact HB

/-- Waiting for a block of `x`. -/
theorem xWait_rule (m : Memref sig .scVector .vmem S8x4096 .f32) (hm : m.IsWhole) (s : DmaSems sig S_) (n : ℕ)
    (O : CellTallies nD τ sig (HIx 1)) (W : Waits sig (HIx 1)) :
    iprop(Transfers.MayWaits (thr d i) none O ∗ xFly d i X m hm s n ∗ owed d i O W)
      ⊢ runs d i (xWait i m hm s) (fun _ => iprop(xHas d i X m hm n ∗ rest d i s ∗ owed d i O W)) := by
  unfold owed
  iintro ⟨Hw, HB, ⟨%W', %hW, HO⟩⟩
  unfold xWait
  iapply (Transfers.wp_waitBatchLastO (EC (F := F)) 𝒱₀ (thr d i) none (dstw := m) (D := fun _ : Fin 1 => xHas d i X m hm n) (u := 0)
    (O := O) (W := W') none rfl (View.dmaCredit_pos _ (by decide)) (by omega)) $$ [Hw HB HO]
  · isplitl [HB]; · iexact HB
    isplitl [HO]; · iexact HO
    iapply (Transfers.MayWaits.elim (SemLoc.dma s.sem)) $$ Hw
  iintro ⟨HD, Hs, HO⟩
  rw [wp_ret]
  imodintro
  isplitl [HD]
  · iapply (Entails.of_eq (bigSep_one _)) $$ HD
  isplitl [Hs]; · iexact Hs
  iexists insert (SemLoc.dma s.sem, none) W'
  isplitr
  · ipureintro
    intro p hp
    rcases Finset.mem_insert.mp hp with rfl | hp
    · exact .inr rfl
    · exact hW p hp
  iexact HO

/-- A flat buffer held whole is its eight rows. -/
theorem cut_rows {e : EltTy} (m : Memref sig .scVector .vmem S16384 e) (hm : m.IsWhole) (f : Buf (Elt F) (m.view.loc (thr d i))) :
    (m.view.loc (thr d i) ↦{fullShare} f : sProp 𝕄)
      = bigSep Finset.univ fun r : Fin 8 => m.view.loc (thr d i) ↦[(bufRow m r).view.set]{fullShare} f :=
  pointsTo_cut (ℓ := m.view.loc (thr d i)) (fun r : Fin 8 => (bufRow m r).view.set) fullShare f
    (bufRow_disjoint m hm) (bufRow_cover m hm)

/-! ## Eight waits on one semaphore -/

/-- Eight waits, one for each of eight copies started on one semaphore: after the last, everything they bring. -/
theorem waits_rule {sp sp' : Space} {s₀ s₁ : Shape} {e₀ e₁ : EltTy} (s : DmaSems sig S_)
    (src : Fin 8 → Memref sig .scVector sp s₀ e₀) (dst : Fin 8 → Memref sig .scVector sp' s₁ e₁)
    (hsrc : ∀ r, (src r).view.WordExact) (hdst : ∀ r, (dst r).view.WordExact) (N : ℕ) (hN : ∀ r, (dst r).view.dmaCredit = N)
    (hN0 : 0 < N) (B : Fin 8 → sProp 𝕄) (O : CellTallies nD τ sig (HIx 1)) (W : Waits sig (HIx 1)) :
    iprop(Transfers.MayWaits (thr d i) none O ∗ Transfers.Batch (EC (F := F)) (thr d i) (.dma s.sem) none N B 8 0 ∗ owed d i O W)
      ⊢ runs d i (seq8 i fun r => Prog.lift (.waitDma2 s.sem (src r) (dst r) (hsrc r) (hdst r)))
          (fun _ => iprop(bigSep Finset.univ B ∗ rest d i s ∗ owed d i O W)) := by
  -- before wait `j` the copies' first `j` credits are spent; after the eighth everything is back
  let I : ℕ → sProp 𝕄 := fun j => iprop(Transfers.MayWaits (thr d i) none O
    ∗ (if j < 8 then Transfers.Batch (EC (F := F)) (thr d i) (.dma s.sem) none N B 8 (j * N) else iprop(bigSep Finset.univ B ∗ rest d i s))
    ∗ owed d i O W)
  have hI : ∀ r : Fin 8, I r.val ⊢ runs d i (Prog.lift (.waitDma2 s.sem (src r) (dst r) (hsrc r) (hdst r))) (fun _ => I (r.val + 1)) := by
    intro r
    have hr := r.isLt
    show iprop(_ ∗ (if r.val < 8 then _ else _) ∗ owed d i O W) ⊢ _
    rw [if_pos hr]
    by_cases hl : r.val + 1 < 8
    · have hQ : (fun _ : PUnit => I (r.val + 1)) = fun _ => iprop(Transfers.MayWaits (thr d i) none O
          ∗ Transfers.Batch (EC (F := F)) (thr d i) (.dma s.sem) none N B 8 (r.val * N + N) ∗ owed d i O W) := by
        funext _
        show iprop(_ ∗ (if r.val + 1 < 8 then _ else _) ∗ _) = _
        rw [if_pos hl, Nat.succ_mul]
      rw [hQ]
      unfold owed
      iintro ⟨#Hw, HB, ⟨%W', %hW, HO⟩⟩
      iapply (Transfers.wp_waitBatchO (EC (F := F)) 𝒱₀ (thr d i) none (srcw := src r) (dstw := dst r) (D := B) (u := r.val * N)
        (O := O) (W := W') none (hN r) (by have : (r.val + 1) * N < 8 * N := Nat.mul_lt_mul_of_pos_right hl hN0
                                           rw [Nat.succ_mul] at this; rw [Nat.mul_comm N 8]; exact this)) $$ [HB HO]
      · isplitl [HB]; · iexact HB
        isplitl [HO]; · iexact HO
        iapply (Transfers.MayWaits.elim (SemLoc.dma s.sem)) $$ Hw
      iintro ⟨HB, HO⟩
      rw [wp_ret]
      imodintro
      isplitr; · iexact Hw
      isplitl [HB]; · iexact HB
      iexists insert (SemLoc.dma s.sem, none) W'
      isplitr
      · ipureintro
        intro p hp
        rcases Finset.mem_insert.mp hp with rfl | hp
        · exact .inr rfl
        · exact hW p hp
      iexact HO
    · have hQ : (fun _ : PUnit => I (r.val + 1)) = fun _ => iprop(Transfers.MayWaits (thr d i) none O
          ∗ iprop(bigSep Finset.univ B ∗ rest d i s) ∗ owed d i O W) := by
        funext _
        show iprop(_ ∗ (if r.val + 1 < 8 then _ else _) ∗ _) = _
        rw [if_neg hl]
      rw [hQ]
      unfold owed
      iintro ⟨#Hw, HB, ⟨%W', %hW, HO⟩⟩
      iapply (Transfers.wp_waitBatchLastO (EC (F := F)) 𝒱₀ (thr d i) none (srcw := src r) (dstw := dst r) (D := B) (u := r.val * N)
        (O := O) (W := W') none (hN r) hN0 (by have : (r.val + 1) * N = 8 * N := by rw [show r.val + 1 = 8 by omega]
                                               rw [Nat.succ_mul] at this; rw [Nat.mul_comm N 8]; exact this)) $$ [HB HO]
      · isplitl [HB]; · iexact HB
        isplitl [HO]; · iexact HO
        iapply (Transfers.MayWaits.elim (SemLoc.dma s.sem)) $$ Hw
      iintro ⟨HD, Hs, HO⟩
      rw [wp_ret]
      imodintro
      isplitr; · iexact Hw
      isplitl [HD Hs]
      · isplitl [HD] <;> iassumption
      iexists insert (SemLoc.dma s.sem, none) W'
      isplitr
      · ipureintro
        intro p hp
        rcases Finset.mem_insert.mp hp with rfl | hp
        · exact .inr rfl
        · exact hW p hp
      iexact HO
  have h0 : iprop(Transfers.MayWaits (thr d i) none O ∗ Transfers.Batch (EC (F := F)) (thr d i) (.dma s.sem) none N B 8 0 ∗ owed d i O W) = I 0 := by
    show _ = iprop(_ ∗ (if 0 < 8 then _ else _) ∗ _)
    rw [if_pos (by decide), Nat.zero_mul]
  have h8 : (fun _ : PUnit => I 8) = fun _ => iprop(Transfers.MayWaits (thr d i) none O
      ∗ iprop(bigSep Finset.univ B ∗ rest d i s) ∗ owed d i O W) := by
    funext _
    show iprop(_ ∗ (if 8 < 8 then _ else _) ∗ _) = _
    rw [if_neg (by decide)]
  rw [h0]
  refine (runs_seq8 I hI).trans ?_
  rw [h8]
  refine wp_mono frame _ _ fun _ => ?_
  iintro ⟨-, ⟨HB, Hs⟩, HO⟩
  isplitl [HB]; · iexact HB
  isplitl [Hs] <;> iassumption

/-! ## Rows of `d` -/

/-- Row `n` of `d`, to read. -/
abbrev dWin (n : ℕ) : sProp 𝕄 := dLoc d ↦[rowSet n]{fullShare.right} D

/-- The eight rows of `d` from row `n` on. -/
abbrev dWins (n : ℕ) : sProp 𝕄 := bigSep Finset.univ fun r : Fin 8 => dWin d D (n + r.val)

/-- An index buffer at whatever it holds. -/
abbrev dFree (m : Memref sig .scVector .vmem S16384 .i32) : sProp 𝕄 := iprop(∃ f, m.view.loc (thr d i) ↦{fullShare} f)

/-- An index buffer holding the rows of `d` from row `n` on. -/
abbrev dHas (m : Memref sig .scVector .vmem S16384 .i32) (hm : m.IsWhole) (n : ℕ) : sProp 𝕄 :=
  m.view.loc (thr d i) ↦{fullShare} hm.unread (flat D n)

/-- Row `r` of an index buffer holding row `n + r` of `d`. -/
abbrev dRowHas (m : Memref sig .scVector .vmem S16384 .i32) (hm : m.IsWhole) (n : ℕ) (r : Fin 8) : sProp 𝕄 :=
  m.view.loc (thr d i) ↦[(bufRow m r).view.set]{fullShare} hm.unread (flat D n)

/-- The copies of eight rows of `d`, of which the first `j` are started. -/
abbrev dBatch (m : Memref sig .scVector .vmem S16384 .i32) (hm : m.IsWhole) (s : DmaSems sig S_) (n j : ℕ) : sProp 𝕄 :=
  Transfers.Batch (EC (F := F)) (thr d i) (.dma s.sem) none (bufRow m 0).view.dmaCredit (dRowHas d i D m hm n) j 0

/-- The copies of eight rows of `d`, all in flight. -/
abbrev dFly (m : Memref sig .scVector .vmem S16384 .i32) (hm : m.IsWhole) (s : DmaSems sig S_) (n : ℕ) : sProp 𝕄 :=
  dBatch d i D m hm s n 8

/-- Starting the copy of one row of `d`. -/
theorem dStart_rule (m : Memref sig .scVector .vmem S16384 .i32) (hm : m.IsWhole) (s : DmaSems sig S_) (n : ℕ) (hn : n + 8 ≤ 16384)
    (off : Fin 8 → Fin 2 → ℕ) (h : ∀ r a, off r a + S1x2048.size a ≤ S16384x2048.size a) (ho : ∀ r, off r = ![n + r.val, 0])
    (r : Fin 8) (f : Buf (Elt F) (m.view.loc (thr d i))) :
    iprop(dWin d D (n + r.val) ∗ (m.view.loc (thr d i) ↦[(bufRow m r).view.set]{fullShare} f) ∗ dBatch d i D m hm s n r.val)
      ⊢ runs d i (dStart i m s off h r) (fun _ => dBatch d i D m hm s n (r.val + 1)) := by
  unfold dStart
  obtain rfl : off = fun r : Fin 8 => ![n + r.val, 0] := funext ho
  have hr := h r
  have hset : ((arrRow dV ![n + r.val, 0] hr).view.loc (thr d i) ↦[(arrRow dV ![n + r.val, 0] hr).view.set]{fullShare.right} D : sProp 𝕄)
      = dWin d D (n + r.val) := by
    rw [set_dRow (n + r.val) hr]
  iintro ⟨Hx, Hm, HB⟩
  iapply (Transfers.wp_dmaBatch (EC (F := F)) 𝒱₀ (thr d i) none (src := arrRow dV ![n + r.val, 0] hr) (dst := bufRow m r)
    (D := dRowHas d i D m hm n) (j := r.val) (u := 0) (q := fullShare.right) (fs := D) (fd := f) (Sd := (bufRow m r).view.set)
    none (bufRow m 0).view.dmaCredit rfl (Finset.Subset.refl _) r.isLt (Nat.zero_le _) ?_) $$ [Hx Hm HB]
  · refine sep_elim_left.trans (Entails.of_eq (pointsTo_congr ?_))
    refine eqOn_of_read (bufRow m r).view _ _ ?_
    rw [View.read_write_univ]
    exact read_dRow n r hn hr D m hm
  · isplitl [Hx]
    · rw [hset]; iexact Hx
    isplitl [Hm]
    · iexact Hm
    iexact HB
  iintro HB
  rw [wp_ret]
  imodintro
  iexact HB

/-- Starting the copies of eight rows of `d`. -/
theorem dStarts_rule (m : Memref sig .scVector .vmem S16384 .i32) (hm : m.IsWhole) (s : DmaSems sig S_) (n : ℕ) (hn : n + 8 ≤ 16384)
    (off : Fin 8 → Fin 2 → ℕ) (h : ∀ r a, off r a + S1x2048.size a ≤ S16384x2048.size a) (ho : ∀ r, off r = ![n + r.val, 0]) :
    iprop(dWins d D n ∗ dFree d i m ∗ rest d i s) ⊢ runs d i (seq8 i (dStart i m s off h)) (fun _ => dFly d i D m hm s n) := by
  iintro ⟨Hx, ⟨%f, Hm⟩, Hs⟩
  imod (Transfers.batch_alloc' (EC (F := F)) (thr d i) none (bufRow m 0).view.dmaCredit (dRowHas d i D m hm n)
    (sm := .dma s.sem) (E := Set.univ)) $$ Hs with HB
  iapply (runs_use (runs_seq8 (fun j => iprop(bigSep (Transfers.pending (n := 8) j) (fun r => dWin d D (n + r.val))
      ∗ bigSep (Transfers.pending (n := 8) j) (fun r => (m.view.loc (thr d i) ↦[(bufRow m r).view.set]{fullShare} f : sProp 𝕄))
      ∗ dBatch d i D m hm s n j)) ?_)) $$ [Hx Hm HB]
  · intro r
    simp only [Transfers.bigSep_pending_step _ r.val r.isLt]
    iintro ⟨⟨Hx, Hxs⟩, ⟨Hm, Hms⟩, HB⟩
    iapply (runs_use (dStart_rule d i D m hm s n hn off h ho r f)) $$ [Hx Hm HB]
    · isplitl [Hx]; · iexact Hx
      isplitl [Hm]; · iexact Hm
      iexact HB
    iintro %_ HB
    isplitl [Hxs]; · iexact Hxs
    isplitl [Hms]; · iexact Hms
    iexact HB
  · rw [Transfers.pending_zero]
    isplitl [Hx]; · iexact Hx
    isplitl [Hm]
    · iapply (Entails.of_eq (cut_rows d i m hm f)) $$ Hm
    iexact HB
  iintro %_ ⟨-, -, HB⟩
  iexact HB

/-- Waiting for eight rows of `d`. -/
theorem dWaits_rule (m : Memref sig .scVector .vmem S16384 .i32) (hm : m.IsWhole) (s : DmaSems sig S_) (n : ℕ)
    (O : CellTallies nD τ sig (HIx 1)) (W : Waits sig (HIx 1)) :
    iprop(Transfers.MayWaits (thr d i) none O ∗ dFly d i D m hm s n ∗ owed d i O W)
      ⊢ runs d i (seq8 i (dWait i m s)) (fun _ => iprop(dHas d i D m hm n ∗ rest d i s ∗ owed d i O W)) := by
  refine (waits_rule d i s (fun _ => arrRow dV ![0, 0] inb_S16384x2048_S1x2048_0_0) (fun r => bufRow m r)
    (fun _ => (View.wordExact_bits rfl).reshape _ _) (fun _ => View.wordExact_bits rfl) (bufRow m 0).view.dmaCredit (fun _ => rfl)
    (View.dmaCredit_pos _ (by decide)) (dRowHas d i D m hm n) O W).trans ?_
  refine wp_mono frame _ _ fun _ => ?_
  exact sep_mono (Entails.of_eq (cut_rows d i m hm (hm.unread (flat D n))).symm) (Entails.of_eq rfl)

/-! ## Rows of the output -/

/-- Row `n` of the output, holding `f`'s. -/
abbrev oWin (f : S16384x2048.Idx → Elt F .f32) (n : ℕ) : sProp 𝕄 := oLoc d ↦[rowSet n]{fullShare} f

/-- The eight rows of the output from row `n` on. -/
abbrev oWins (f : S16384x2048.Idx → Elt F .f32) (n : ℕ) : sProp 𝕄 := bigSep Finset.univ fun r : Fin 8 => oWin d f (n + r.val)

/-- The result buffer holding `f`. -/
abbrev soHas (f : S16384.Idx → Elt F .f32) : sProp 𝕄 := so.view.loc (thr d i) ↦{fullShare} f

/-- What the copy of row `r` of a block of the output brings: the row at the result, and the result buffer's row back. -/
abbrev oRowBack (n : ℕ) (r : Fin 8) : sProp 𝕄 :=
  iprop(oWin d (G X D) (n + r.val) ∗ (so.view.loc (thr d i) ↦[(bufRow so r).view.set]{fullShare} flat (G X D) n))

/-- The credit of a copy of one row of the output. -/
abbrev NO : ℕ := (arrRow oV ![0, 0] inb_S16384x2048_S1x2048_0_0).view.dmaCredit

/-- The copies of eight rows of the output, of which the first `j` are started. -/
abbrev oBatch (s : DmaSems sig S_) (n j : ℕ) : sProp 𝕄 :=
  Transfers.Batch (EC (F := F)) (thr d i) (.dma s.sem) none NO (oRowBack d i X D n) j 0

/-- The copies of eight rows of the output, all in flight. -/
abbrev oFly (s : DmaSems sig S_) (n : ℕ) : sProp 𝕄 := oBatch d i X D s n 8

/-- Starting the copy of one row of the output. -/
theorem oStart_rule (s : DmaSems sig S_) (n : ℕ) (hn : n + 8 ≤ 16384)
    (off : Fin 8 → Fin 2 → ℕ) (h : ∀ r a, off r a + S1x2048.size a ≤ S16384x2048.size a) (ho : ∀ r, off r = ![n + r.val, 0])
    (r : Fin 8) (f : S16384x2048.Idx → Elt F .f32) :
    iprop(oWin d f (n + r.val) ∗ (so.view.loc (thr d i) ↦[(bufRow so r).view.set]{fullShare} flat (G X D) n) ∗ oBatch d i X D s n r.val)
      ⊢ runs d i (oStart i s off h r) (fun _ => oBatch d i X D s n (r.val + 1)) := by
  unfold oStart
  obtain rfl : off = fun r : Fin 8 => ![n + r.val, 0] := funext ho
  have hr := h r
  have hset : ∀ f : S16384x2048.Idx → Elt F .f32,
      ((arrRow oV ![n + r.val, 0] hr).view.loc (thr d i) ↦[(arrRow oV ![n + r.val, 0] hr).view.set]{fullShare} f : sProp 𝕄)
        = oWin d f (n + r.val) := by
    intro f
    rw [set_oRow (n + r.val) hr]
  iintro ⟨Hx, Hm, HB⟩
  iapply (Transfers.wp_dmaBatch (EC (F := F)) 𝒱₀ (thr d i) none (src := bufRow so r) (dst := arrRow oV ![n + r.val, 0] hr)
    (D := oRowBack d i X D n) (j := r.val) (u := 0) (q := fullShare) (fs := flat (G X D) n) (fd := f)
    (Sd := (arrRow oV ![n + r.val, 0] hr).view.set)
    none NO rfl (Finset.Subset.refl _) r.isLt (Nat.zero_le _) ?_) $$ [Hx Hm HB]
  · unfold oRowBack
    rw [← hset]
    refine sep_mono (Entails.of_eq (pointsTo_congr ?_)) (Entails.of_eq rfl)
    refine eqOn_of_read (arrRow oV ![n + r.val, 0] hr).view _ _ ?_
    rw [View.read_write_univ]
    exact read_oRow n r hn hr (G X D)
  · isplitl [Hm]
    · iexact Hm
    isplitl [Hx]
    · rw [hset]; iexact Hx
    iexact HB
  iintro HB
  rw [wp_ret]
  imodintro
  iexact HB

/-- Starting the copies of eight rows of the output. -/
theorem oStarts_rule (s : DmaSems sig S_) (n : ℕ) (hn : n + 8 ≤ 16384)
    (off : Fin 8 → Fin 2 → ℕ) (h : ∀ r a, off r a + S1x2048.size a ≤ S16384x2048.size a) (ho : ∀ r, off r = ![n + r.val, 0])
    (f : S16384x2048.Idx → Elt F .f32) :
    iprop(oWins d f n ∗ soHas d i (flat (G X D) n) ∗ rest d i s) ⊢ runs d i (seq8 i (oStart i s off h)) (fun _ => oFly d i X D s n) := by
  iintro ⟨Hx, Hm, Hs⟩
  imod (Transfers.batch_alloc' (EC (F := F)) (thr d i) none NO (oRowBack d i X D n)
    (sm := .dma s.sem) (E := Set.univ)) $$ Hs with HB
  iapply (runs_use (runs_seq8 (fun j => iprop(bigSep (Transfers.pending (n := 8) j) (fun r => oWin d f (n + r.val))
      ∗ bigSep (Transfers.pending (n := 8) j) (fun r => (so.view.loc (thr d i) ↦[(bufRow so r).view.set]{fullShare} flat (G X D) n : sProp 𝕄))
      ∗ oBatch d i X D s n j)) ?_)) $$ [Hx Hm HB]
  · intro r
    simp only [Transfers.bigSep_pending_step _ r.val r.isLt]
    iintro ⟨⟨Hx, Hxs⟩, ⟨Hm, Hms⟩, HB⟩
    iapply (runs_use (oStart_rule d i X D s n hn off h ho r f)) $$ [Hx Hm HB]
    · isplitl [Hx]; · iexact Hx
      isplitl [Hm]; · iexact Hm
      iexact HB
    iintro %_ HB
    isplitl [Hxs]; · iexact Hxs
    isplitl [Hms]; · iexact Hms
    iexact HB
  · rw [Transfers.pending_zero]
    isplitl [Hx]; · iexact Hx
    isplitl [Hm]
    · iapply (Entails.of_eq (cut_rows d i so (Memref.isWhole_whole _) (flat (G X D) n))) $$ Hm
    iexact HB
  iintro %_ ⟨-, -, HB⟩
  iexact HB

/-- Waiting for eight rows of the output. -/
theorem oWaits_rule (s : DmaSems sig S_) (n : ℕ) (O : CellTallies nD τ sig (HIx 1)) (W : Waits sig (HIx 1)) :
    iprop(Transfers.MayWaits (thr d i) none O ∗ oFly d i X D s n ∗ owed d i O W)
      ⊢ runs d i (seq8 i (oWait i s))
          (fun _ => iprop((oWins d (G X D) n ∗ soHas d i (flat (G X D) n)) ∗ rest d i s ∗ owed d i O W)) := by
  refine (waits_rule d i s (fun r => bufRow so r) (fun _ => arrRow oV ![0, 0] inb_S16384x2048_S1x2048_0_0)
    (fun _ => View.wordExact_bits rfl) (fun _ => (View.wordExact_bits rfl).reshape _ _) NO (fun _ => rfl)
    (View.dmaCredit_pos _ (by decide)) (oRowBack d i X D n) O W).trans ?_
  refine wp_mono frame _ _ fun _ => ?_
  have e : bigSep Finset.univ (oRowBack d i X D n) = iprop(oWins d (G X D) n
      ∗ bigSep Finset.univ fun r : Fin 8 => (so.view.loc (thr d i) ↦[(bufRow so r).view.set]{fullShare} flat (G X D) n : sProp 𝕄)) :=
    bigSep_sep' _ _ _
  rw [e]
  exact sep_mono (sep_mono (Entails.of_eq rfl) (Entails.of_eq (cut_rows d i so (Memref.isWhole_whole _) (flat (G X D) n)).symm)) (Entails.of_eq rfl)

end Cert.Proof.Tile
-- ==== Proof.Gather.lean ====
/-
  The gather. A row of the block is gathered in 128 steps of sixteen elements: each step reads sixteen words of `d`, checks
  they name columns of the block, reads `x` at them and writes the sixteen elements. Before a step the result buffer holds
  the result up to the step's place and what it held before from there on (`thru`).
-/
module

public import proofs.«01_k».proof.Proof.Copies
public import Idealize.ShloMosaic.Lib.SparseCore.Ops
public import Idealize.ShloMosaic.Lib.WholeRead

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)
variable (X : S16384x4096.Idx → Elt F .f32) (D : S16384x2048.Idx → Elt F .i32)

/-- `g` below place `t`, `f` from there on. -/
def thru {α : Type} (g f : S16384.Idx → α) (t : ℕ) : S16384.Idx → α := fun j => if (j 0).val < t then g j else f j

theorem thru_zero {α : Type} (g f : S16384.Idx → α) : thru g f 0 = f := by
  funext j; exact if_neg (Nat.not_lt_zero _)

theorem thru_all {α : Type} (g f : S16384.Idx → α) : thru g f (2048 * 8) = g := by
  funext j; exact if_pos (j 0).isLt

theorem trips2 : k0_t2_loop.trips = 128 := by decide +kernel

/-- A step's sixteen results, written, bring the buffer sixteen places on. -/
theorem thru_write (g f : S16384.Idx → Elt F .f32) (t : ℕ) (h : ∀ a, (![t] : Fin 1 → ℕ) a + S16.size a ≤ S16384.size a)
    (y : S16.Idx → Elt F .f32) (hy : ∀ (x : S16.Idx) (hx : t + (x 0).val < 16384), y x = g (ix1 ⟨t + (x 0).val, hx⟩)) :
    (so.access (Rect.unit (s := S16384) ![t] S16.size h)).write (Elt F) (thru g f t) y Finset.univ = thru g f (t + 16) := by
  have ht : t + 16 ≤ 16384 := h 0
  have hemb : ∀ x : S16.Idx, (so.access (Rect.unit (s := S16384) ![t] S16.size h)).emb x
      = (ix1 ⟨t + (x 0).val, by have : (x 0).val < 16 := (x 0).isLt; omega⟩ : S16384.Idx) := by
    intro x
    funext a
    refine Fin.ext ?_
    match a with
    | ⟨0, _⟩ => show t + 1 * (x 0).val = t + (x 0).val; omega
  funext j
  by_cases hj : t ≤ (j 0).val ∧ (j 0).val < t + 16
  · have e : j = (so.access (Rect.unit (s := S16384) ![t] S16.size h)).emb (ix1 ⟨(j 0).val - t, by omega⟩ : S16.Idx) := by
      rw [hemb]
      funext a
      refine Fin.ext ?_
      match a with
      | ⟨0, _⟩ => show (j 0).val = t + ((j 0).val - t); omega
    have h1 : (so.access (Rect.unit (s := S16384) ![t] S16.size h)).write (Elt F) (thru g f t) y Finset.univ j
        = y (ix1 ⟨(j 0).val - t, by omega⟩) := by
      conv_lhs => rw [e]
      exact View.write_emb_of_mem _ _ (Finset.mem_univ _)
    rw [h1, hy _ (by show t + ((j 0).val - t) < 16384; omega)]
    have h2 : thru g f (t + 16) j = g j := if_pos hj.2
    rw [h2]
    congr 1
    funext a
    refine Fin.ext ?_
    match a with
    | ⟨0, _⟩ => show t + ((j 0).val - t) = (j 0).val; omega
  · have h1 : (so.access (Rect.unit (s := S16384) ![t] S16.size h)).write (Elt F) (thru g f t) y Finset.univ j = thru g f t j := by
      refine View.write_of_not_mem _ _ _ ?_
      intro hm
      obtain ⟨x, -, hx⟩ := Finset.mem_map.mp hm
      rw [hemb] at hx
      have hx0 : (x 0).val < 16 := (x 0).isLt
      have : (j 0).val = t + (x 0).val := by rw [← hx]; rfl
      omega
    rw [h1]
    show (if (j 0).val < t then g j else f j) = (if (j 0).val < t + 16 then g j else f j)
    by_cases hlt : (j 0).val < t
    · rw [if_pos hlt, if_pos (by omega)]
    · rw [if_neg hlt, if_neg (by omega)]

/-- One step of the gather. -/
theorem gStep_rule (hD : ∀ j, (D j).toNat < 4096) (xm : Memref sig .scVector .vmem S8x4096 .f32) (hx : xm.IsWhole)
    (dm : Memref sig .scVector .vmem S16384 .i32) (hd : dm.IsWhole) (n : ℕ) (r : Fin 8) (k : ℕ) (hk : k < 128)
    (oL oS : Fin 1 → ℕ) (hL : ∀ a, oL a + S16.size a ≤ S16384.size a) (hS : ∀ a, oS a + S16.size a ≤ S16384.size a)
    (eL : oL = ![2048 * r.val + 16 * k]) (eS : oS = ![2048 * r.val + 16 * k]) (f : S16384.Idx → Elt F .f32) :
    iprop(xHas d i X xm hx n ∗ dHas d i D dm hd n ∗ soHas d i (thru (flat (G X D) n) f (2048 * r.val + 16 * k)))
      ⊢ runs d i (gStep i xm dm (broadcast S16 (BitVec.ofNat 32 r.val)) oL oS hL hS)
          (fun _ => iprop(xHas d i X xm hx n ∗ dHas d i D dm hd n
            ∗ soHas d i (thru (flat (G X D) n) f (2048 * r.val + 16 * (k + 1))))) := by
  subst eL eS
  have hr := r.isLt
  have hread : ∀ x : S16.Idx, View.readAt (Elt F) dm.view (Rect.unit (s := S16384) ![2048 * r.val + 16 * k] S16.size hL).toLoadRect
      (hd.unread (flat D n)) x
      = flat D n (ix1 ⟨2048 * r.val + 16 * k + (x 0).val, by have : (x 0).val < 16 := (x 0).isLt; omega⟩) := by
    intro x
    rw [hd.readAt_unread]
    congr 1
    funext a
    refine Fin.ext ?_
    match a with
    | ⟨0, _⟩ => show 2048 * r.val + 16 * k + 1 * (x 0).val = 2048 * r.val + 16 * k + (x 0).val; omega
  iintro ⟨Hx, Hd, Ho⟩
  unfold gStep
  iapply (wp_load 𝒱₀ (thr d i) none Set.univ (m := dm) (S := Finset.univ) (q := fullShare) (f := hd.unread (flat D n))
    (Finset.subset_univ _)) $$ Hd
  iintro Hd
  generalize hw : View.readAt (Elt F) dm.view (Rect.unit (s := S16384) ![2048 * r.val + 16 * k] S16.size hL).toLoadRect
      (hd.unread (flat D n)) = w
  rw [hw] at hread
  have hchk : k0_chk1 (broadcast S16 (BitVec.ofNat 32 r.val)) w := by
    unfold k0_chk1
    intro a x
    match a with
    | ⟨0, _⟩ =>
      show (BitVec.ofNat 32 r.val).toNat < 8
      rw [BitVec.toNat_ofNat, Nat.mod_eq_of_lt (by omega)]; exact hr
    | ⟨1, _⟩ =>
      show (w x).toNat < 4096
      rw [hread x]; exact hD _
  iapply (wp_assume 𝒱₀ (thr d i) none Set.univ hchk)
  iapply (SparseCore.wp_vectorLoadIdx 𝒱₀ (thr d i) none Set.univ (base := xm) (t := S16)
    (idxs := ![broadcast S16 (BitVec.ofNat 32 r.val), w]) (h := k0_idx1_inb _ _ hchk) (hl := View.loads_vmem h_S8x4096)
    (S := Finset.univ) (q := fullShare) (f := hx.unread (XB X n)) (Finset.subset_univ _)) $$ Hx
  iintro Hx
  iapply (wp_load 𝒱₀ (thr d i) none Set.univ (m := so) (S := Finset.univ) (q := fullShare)
    (f := thru (flat (G X D) n) f (2048 * r.val + 16 * k)) (Finset.subset_univ _)) $$ Ho
  iintro Ho
  iapply (wp_store 𝒱₀ (thr d i) none Set.univ (m := so) (r := Rect.unit (s := S16384) ![2048 * r.val + 16 * k] S16.size hS)
    (S := Finset.univ) (f := thru (flat (G X D) n) f (2048 * r.val + 16 * k)) (Finset.subset_univ _)) $$ [Ho]
  · iexact Ho
  iintro Ho
  iapply (runs_ret (d := d) (i := i) (⟨⟩ : Unit))
  isplitl [Hx]; · iexact Hx
  isplitl [Hd]; · iexact Hd
  iapply (Entails.of_eq (congrArg (fun g : S16384.Idx → Elt F .f32 => soHas d i g) (thru_write (flat (G X D) n) f (2048 * r.val + 16 * k) hS _ ?_))) $$ Ho
  intro x hx'
  have hx0 : (x 0).val < 16 := (x 0).isLt
  have hrd : (xm.access (.whole S8x4096)).read (Elt F) (hx.unread (XB X n)) = XB X n := by
    funext z
    show xm.view.read (Elt F) (hx.unread (XB X n)) ((Rect.whole S8x4096).emb z) = _
    rw [hx.read_unread]
    congr 1
    funext a
    refine Fin.ext ?_
    show 0 + 1 * (z a).val = (z a).val
    omega
  show (xm.access (.whole S8x4096)).read (Elt F) (hx.unread (XB X n)) (idxAt ![broadcast S16 (BitVec.ofNat 32 r.val), w] _ x) = _
  rw [hrd]
  show X (ix2 _ _) = X (ix2 _ _)
  have hwx := hread x
  congr 1
  funext a
  refine Fin.ext ?_
  match a with
  | ⟨0, _⟩ =>
    show (rowOf n (BitVec.ofNat 32 r.val).toNat).val = (rowOf n ((2048 * r.val + 16 * k + (x 0).val) / 2048)).val
    rw [BitVec.toNat_ofNat, Nat.mod_eq_of_lt (by omega), show (2048 * r.val + 16 * k + (x 0).val) / 2048 = r.val by omega]
  | ⟨1, _⟩ =>
    show (w x).toNat = (flat D n (ix1 ⟨2048 * r.val + 16 * k + (x 0).val, hx'⟩)).toNat % 4096
    rw [hwx]; exact (Nat.mod_eq_of_lt (hD _)).symm

/-- The gather of row `r`. -/
theorem gRow_rule (hD : ∀ j, (D j).toNat < 4096) (xm : Memref sig .scVector .vmem S8x4096 .f32) (hx : xm.IsWhole)
    (dm : Memref sig .scVector .vmem S16384 .i32) (hd : dm.IsWhole) (n : ℕ)
    (oL oS : Fin 8 → Fin k0_t2_loop.trips → Fin 1 → ℕ)
    (hL : ∀ r k a, oL r k a + S16.size a ≤ S16384.size a) (hS : ∀ r k a, oS r k a + S16.size a ≤ S16384.size a)
    (eL : ∀ r k, oL r k = ![2048 * r.val + 16 * k.val]) (eS : ∀ r k, oS r k = ![2048 * r.val + 16 * k.val])
    (f : S16384.Idx → Elt F .f32) (r : Fin 8) :
    iprop(xHas d i X xm hx n ∗ dHas d i D dm hd n ∗ soHas d i (thru (flat (G X D) n) f (2048 * r.val)))
      ⊢ runs d i (gRow i xm dm oL oS hL hS r)
          (fun _ => iprop(xHas d i X xm hx n ∗ dHas d i D dm hd n ∗ soHas d i (thru (flat (G X D) n) f (2048 * (r.val + 1))))) := by
  unfold gRow
  iintro H
  iapply (Scf.wp_for frame _ _ _ _ _ k0_t2_ok (⟨⟩ : PUnit) _
    (fun k _ => iprop(xHas d i X xm hx n ∗ dHas d i D dm hd n ∗ soHas d i (thru (flat (G X D) n) f (2048 * r.val + 16 * k)))) ?_)
  · intro k _
    exact gStep_rule d i X D hD xm hx dm hd n r k.val (trips2 ▸ k.isLt) _ _ _ _ (eL r k) (eS r k) f
  isplitl [H]
  · iexact H
  iintro %_ H
  have e : 2048 * r.val + 16 * Scf.trips k0_t2_loop.lb k0_t2_loop.ub k0_t2_loop.st = 2048 * (r.val + 1) := by
    have : Scf.trips k0_t2_loop.lb k0_t2_loop.ub k0_t2_loop.st = 128 := trips2
    rw [this]; omega
  rw [e]
  iexact H

/-- The gather of a block: its eight rows, after which the result buffer holds the block's results. -/
theorem gRows_rule (hD : ∀ j, (D j).toNat < 4096) (xm : Memref sig .scVector .vmem S8x4096 .f32) (hx : xm.IsWhole)
    (dm : Memref sig .scVector .vmem S16384 .i32) (hd : dm.IsWhole) (n : ℕ)
    (oL oS : Fin 8 → Fin k0_t2_loop.trips → Fin 1 → ℕ)
    (hL : ∀ r k a, oL r k a + S16.size a ≤ S16384.size a) (hS : ∀ r k a, oS r k a + S16.size a ≤ S16384.size a)
    (eL : ∀ r k, oL r k = ![2048 * r.val + 16 * k.val]) (eS : ∀ r k, oS r k = ![2048 * r.val + 16 * k.val]) :
    iprop(xHas d i X xm hx n ∗ dHas d i D dm hd n ∗ ∃ f, soHas d i f)
      ⊢ runs d i (seq8 i (gRow i xm dm oL oS hL hS))
          (fun _ => iprop(xHas d i X xm hx n ∗ dHas d i D dm hd n ∗ soHas d i (flat (G X D) n))) := by
  iintro ⟨Hx, Hd, ⟨%f, Ho⟩⟩
  iapply (runs_use (runs_seq8 (fun r => iprop(xHas d i X xm hx n ∗ dHas d i D dm hd n ∗ soHas d i (thru (flat (G X D) n) f (2048 * r))))
    (fun r => gRow_rule d i X D hD xm hx dm hd n oL oS hL hS eL eS f r))) $$ [Hx Hd Ho]
  · rw [Nat.mul_zero, thru_zero]
    isplitl [Hx]; · iexact Hx
    isplitl [Hd] <;> iassumption
  iintro %_ H
  rw [thru_all]
  iexact H

end Cert.Proof.Tile
-- ==== Proof.Tile.lean ====
/-
  A tile's whole run. The tile owns 512 rows, in 64 blocks of eight. Trip `t` finds block `2t` on its way into the even
  buffers and the rows of block `2t - 1` on their way out; it gathers blocks `2t` and `2t + 1`. What holds before each trip
  names the blocks still to read, the blocks still to write, and the blocks written, each by an interval of block numbers.
-/
module

public import proofs.«01_k».proof.Proof.Gather

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The tile's blocks -/

/-- The first row of the tile's block `b`. -/
def row (i : grid0.Coords) (b : ℕ) : ℕ := 1024 * (i 1).val + 512 * (i 0).val + 8 * b

/-- A block's rows are rows of the arrays. -/
theorem row_le (i : grid0.Coords) {b : ℕ} (hb : b < 64) : row i b + 8 ≤ 16384 := by
  have h1 : (i 1).val < 16 := (i 1).isLt
  have h0 : (i 0).val < 2 := (i 0).isLt
  unfold row; omega

/-- The tile makes 32 trips. -/
theorem trips1 : k0_t1_loop.trips = 32 := by decide +kernel

/-- Rows are waited for at the head of every trip but the first. -/
theorem head_iff : ∀ t : Fin k0_t1_loop.trips,
    (Scalar.cmpi .ne (Scalar.extui (Scalar.cmpi .sgt (Scf.iv 0#32 1#32 t) 0#32) : BitVec 32) 0#32 = 1#1) ↔ 0 < t.val := by
  decide +kernel

/-- The next block is started in every trip but the last. -/
theorem next_iff : ∀ t : Fin k0_t1_loop.trips, k0_cond2 t = 1#1 ↔ t.val < 31 := by decide +kernel

/-- No block is left from the 64th on. -/
theorem pending_past {k : ℕ} (hk : 64 ≤ k) : Transfers.pending (n := 64) k = ∅ := by
  ext b
  simp only [Transfers.pending, Finset.mem_filter, Finset.mem_univ, true_and, Finset.notMem_empty, iff_false]
  have := b.isLt; omega

variable (d : Dev nD) (i : grid0.Coords)
variable (X : S16384x4096.Idx → Elt F .f32) (D : S16384x2048.Idx → Elt F .i32) (f₀ : S16384x2048.Idx → Elt F .f32)
variable (O : CellTallies nD τ sig (HIx 1)) (W : Waits sig (HIx 1))

/-- The blocks of `x` and of `d` from block `k` on. -/
abbrev srcFrom (k : ℕ) : sProp 𝕄 :=
  bigSep (Transfers.pending (n := 64) k) fun b => iprop(xWin d X (row i b.val) ∗ dWins d D (row i b.val))

/-- The blocks of the output from block `k` on, as they were at the start. -/
abbrev outFrom (k : ℕ) : sProp 𝕄 := bigSep (Transfers.pending (n := 64) k) fun b => oWins d f₀ (row i b.val)

/-- The blocks of the output before block `k`, at the result. -/
abbrev outTo (k : ℕ) : sProp 𝕄 := bigSep (Transfers.issued (m := 64) k) fun b => oWins d (G X D) (row i b.val)

/-- A pair of buffers free, their semaphores at rest. -/
abbrev idle (xm : Memref sig .scVector .vmem S8x4096 .f32) (sx : DmaSems sig S_)
    (dm : Memref sig .scVector .vmem S16384 .i32) (sd : DmaSems sig S_) : sProp 𝕄 :=
  iprop((xFree d i xm ∗ rest d i sx) ∗ (dFree d i dm ∗ rest d i sd))

/-- The even buffers before trip `t`: block `2t` on its way in, nothing after the last trip. -/
def evens (t : ℕ) : sProp 𝕄 :=
  if t < 32 then
    iprop(xFly d i X sx0 (Memref.isWhole_whole _) cc0_scratch5 (row i (2 * t))
      ∗ dFly d i D sd0 (Memref.isWhole_whole _) cc0_scratch7 (row i (2 * t)))
  else idle d i sx0 cc0_scratch5 sd0 cc0_scratch7

/-- The result buffer before trip `t`: block `2t - 1` on its way out, free before the first trip. -/
def outs (t : ℕ) : sProp 𝕄 :=
  if 0 < t then oFly d i X D cc0_scratch9 (row i (2 * t - 1))
  else iprop((∃ f, soHas d i f) ∗ rest d i cc0_scratch9)

/-- What holds before trip `t`. -/
abbrev inv (t : ℕ) : sProp 𝕄 :=
  iprop(Transfers.MayWaits (thr d i) none O ∗ evens d i X D t ∗ idle d i sx1 cc0_scratch6 sd1 cc0_scratch8 ∗ outs d i X D t
    ∗ srcFrom d i X D (2 * t + 1) ∗ outFrom d i f₀ (2 * t) ∗ outTo d i X D (2 * t - 1) ∗ owed d i O W)

/-- One more block written. -/
theorem outTo_step {k : ℕ} (hk : k < 64) :
    iprop(oWins d (G X D) (row i k) ∗ outTo d i X D k) ⊢ (outTo d i X D (k + 1) : sProp 𝕄) := by
  refine Entails.of_eq ?_
  unfold outTo
  rw [Transfers.issued_succ hk, SparseCore.bigSep_insert' (Transfers.not_mem_issued hk)]

/-- The rows of a block are waited for: the result buffer is free and the block is written. -/
theorem flush_one {k : ℕ} (hk : k < 64) :
    iprop(Transfers.MayWaits (thr d i) none O ∗ oFly d i X D cc0_scratch9 (row i k) ∗ outTo d i X D k ∗ owed d i O W)
      ⊢ runs d i (seq8 i (oWait i cc0_scratch9))
          (fun _ => iprop(((∃ f, soHas d i f) ∗ rest d i cc0_scratch9) ∗ outTo d i X D (k + 1) ∗ owed d i O W)) := by
  iintro ⟨Hw, Hf, Ho, HO⟩
  iapply (runs_use (oWaits_rule d i X D cc0_scratch9 (row i k) O W)) $$ [Hw Hf HO]
  · isplitl [Hw]; · iexact Hw
    isplitl [Hf] <;> iassumption
  iintro %_ ⟨⟨Hr, Hs⟩, Hq, HO⟩
  isplitl [Hs Hq]
  · isplitl [Hs]
    · iexists _; iexact Hs
    iexact Hq
  isplitl [Hr Ho]
  · iapply (outTo_step d i X D hk)
    isplitl [Hr] <;> iassumption
  iexact HO

/-- The rows of the last block gathered are waited for, if there is one: the result buffer is free and the block is written. -/
theorem flush_rule (t : Fin k0_t1_loop.trips) :
    iprop(Transfers.MayWaits (thr d i) none O ∗ outs d i X D t.val ∗ outTo d i X D (2 * t.val - 1) ∗ owed d i O W)
      ⊢ runs d i (if Scalar.cmpi .ne (Scalar.extui (Scalar.cmpi .sgt (Scf.iv 0#32 1#32 t) 0#32) : BitVec 32) 0#32 = 1#1 then
            seq8 i (oWait i cc0_scratch9) else pure ⟨⟩)
          (fun _ => iprop(((∃ f, soHas d i f) ∗ rest d i cc0_scratch9) ∗ outTo d i X D (2 * t.val) ∗ owed d i O W)) := by
  have ht : t.val < 32 := lt_of_lt_of_eq t.isLt trips1
  unfold outs
  by_cases h : 0 < t.val
  · rw [if_pos h, if_pos ((head_iff t).2 h)]
    have hk := flush_one d i X D O W (show 2 * t.val - 1 < 64 by omega)
    rwa [show 2 * t.val - 1 + 1 = 2 * t.val by omega] at hk
  · rw [if_neg h, if_neg (fun e => h ((head_iff t).1 e)), show t.val = 0 by omega]
    iintro ⟨-, Hf, Ho, HO⟩
    iapply (runs_ret (d := d) (i := i) (⟨⟩ : PUnit))
    isplitl [Hf]; · iexact Hf
    isplitl [Ho] <;> iassumption

/-- The copies of one block of `x` and of `d`, started. -/
theorem starts_rule (xm : Memref sig .scVector .vmem S8x4096 .f32) (hx : xm.IsWhole) (sx : DmaSems sig S_)
    (dm : Memref sig .scVector .vmem S16384 .i32) (hd : dm.IsWhole) (sd : DmaSems sig S_) {b : ℕ} (hb : b < 64)
    (ox : Fin 2 → ℕ) (jx : ∀ a, ox a + S8x4096.size a ≤ S16384x4096.size a) (ex : ox = ![row i b, 0])
    (od : Fin 8 → Fin 2 → ℕ) (jd : ∀ r a, od r a + S1x2048.size a ≤ S16384x2048.size a) (ed : ∀ r, od r = ![row i b + r.val, 0]) :
    iprop(idle d i xm sx dm sd ∗ srcFrom d i X D b)
      ⊢ runs d i (do xStart i xm hx sx ox jx; seq8 i (dStart i dm sd od jd))
          (fun _ => iprop((xFly d i X xm hx sx (row i b) ∗ dFly d i D dm hd sd (row i b)) ∗ srcFrom d i X D (b + 1))) := by
  simp only [runs, wp_bind]
  iintro ⟨⟨⟨Hx, Hsx⟩, ⟨Hd, Hsd⟩⟩, Hsrc⟩
  ihave Hsrc := (Entails.of_eq (Transfers.bigSep_pending_step (n := 64)
    (fun b => iprop(xWin d X (row i b.val) ∗ dWins d D (row i b.val))) b hb)) $$ Hsrc
  icases Hsrc with ⟨⟨Hxw, Hdw⟩, Hsrc⟩
  iapply (runs_use (xStart_rule d i X xm hx sx (row i b) ox jx ex)) $$ [Hx Hsx Hxw]
  · isplitl [Hxw]; · iexact Hxw
    isplitl [Hx] <;> iassumption
  iintro %_ Hx
  iapply (runs_use (dStarts_rule d i D dm hd sd (row i b) (row_le i hb) od jd ed)) $$ [Hd Hsd Hdw]
  · isplitl [Hdw]; · iexact Hdw
    isplitl [Hd] <;> iassumption
  iintro %_ Hd
  isplitl [Hx Hd]
  · isplitl [Hx] <;> iassumption
  iexact Hsrc

/-- The next trip's first block is started, if there is one. -/
theorem refill_rule (t : Fin k0_t1_loop.trips) :
    iprop(idle d i sx0 cc0_scratch5 sd0 cc0_scratch7 ∗ srcFrom d i X D (2 * t.val + 2))
      ⊢ runs d i (if h : k0_cond2 t = 1#1 then do
            xStart i sx0 (Memref.isWhole_whole _) cc0_scratch5 (k0_off22 i t) (k0_off22_inb i t h)
            seq8 i (dStart i sd0 cc0_scratch7 (fun r => k0_off23 i t (BitVec.ofNat 32 r.val)) (k0_off23_inb i t h))
          else pure ⟨⟩)
          (fun _ => iprop(evens d i X D (t.val + 1) ∗ srcFrom d i X D (2 * t.val + 3))) := by
  have ht : t.val < 32 := lt_of_lt_of_eq t.isLt trips1
  unfold evens
  by_cases h : t.val < 31
  · rw [dif_pos ((next_iff t).2 h), if_pos (show t.val + 1 < 32 by omega)]
    exact starts_rule d i X D sx0 _ cc0_scratch5 sd0 (Memref.isWhole_whole _) cc0_scratch7 (show 2 * (t.val + 1) < 64 by omega)
      _ _ (by rw [k0_off22_eq, row]; congr 1; omega)
      _ _ (fun r => by rw [k0_off23_eq, row]; congr 1; omega)
  · rw [dif_neg (fun e => h ((next_iff t).1 e)), if_neg (show ¬ t.val + 1 < 32 by omega)]
    unfold srcFrom
    rw [pending_past (show 64 ≤ 2 * t.val + 2 by omega), pending_past (show 64 ≤ 2 * t.val + 3 by omega)]
    iintro H
    iapply (runs_ret (d := d) (i := i) (⟨⟩ : PUnit))
    iexact H

/-- The copies of one block waited for: the buffers hold the block. -/
theorem arrive_rule (xm : Memref sig .scVector .vmem S8x4096 .f32) (hx : xm.IsWhole) (sx : DmaSems sig S_)
    (dm : Memref sig .scVector .vmem S16384 .i32) (hd : dm.IsWhole) (sd : DmaSems sig S_) (n : ℕ) :
    iprop(Transfers.MayWaits (thr d i) none O ∗ (xFly d i X xm hx sx n ∗ dFly d i D dm hd sd n) ∗ owed d i O W)
      ⊢ runs d i (do xWait i xm hx sx; seq8 i (dWait i dm sd))
          (fun _ => iprop((xHas d i X xm hx n ∗ dHas d i D dm hd n) ∗ (rest d i sx ∗ rest d i sd) ∗ owed d i O W)) := by
  simp only [runs, wp_bind]
  iintro ⟨#Hw, ⟨Hx, Hd⟩, HO⟩
  iapply (runs_use (xWait_rule d i X xm hx sx n O W)) $$ [Hx HO]
  · isplitr; · iexact Hw
    isplitl [Hx] <;> iassumption
  iintro %_ ⟨Hx, Hsx, HO⟩
  iapply (runs_use (dWaits_rule d i D dm hd sd n O W)) $$ [Hd HO]
  · isplitr; · iexact Hw
    isplitl [Hd] <;> iassumption
  iintro %_ ⟨Hd, Hsd, HO⟩
  isplitl [Hx Hd]
  · isplitl [Hx] <;> iassumption
  isplitl [Hsx Hsd]
  · isplitl [Hsx] <;> iassumption
  iexact HO

/-- A block in its buffers is gathered and its rows started on their way out; the buffers are free again. -/
theorem produce_rule (hD : ∀ j, (D j).toNat < 4096)
    (xm : Memref sig .scVector .vmem S8x4096 .f32) (hx : xm.IsWhole) (dm : Memref sig .scVector .vmem S16384 .i32) (hd : dm.IsWhole)
    {b : ℕ} (hb : b < 64)
    (oL oS : Fin 8 → Fin k0_t2_loop.trips → Fin 1 → ℕ)
    (hL : ∀ r k a, oL r k a + S16.size a ≤ S16384.size a) (hS : ∀ r k a, oS r k a + S16.size a ≤ S16384.size a)
    (eL : ∀ r k, oL r k = ![2048 * r.val + 16 * k.val]) (eS : ∀ r k, oS r k = ![2048 * r.val + 16 * k.val])
    (oo : Fin 8 → Fin 2 → ℕ) (jo : ∀ r a, oo r a + S1x2048.size a ≤ S16384x2048.size a) (eo : ∀ r, oo r = ![row i b + r.val, 0]) :
    iprop((xHas d i X xm hx (row i b) ∗ dHas d i D dm hd (row i b)) ∗ ((∃ f, soHas d i f) ∗ rest d i cc0_scratch9) ∗ outFrom d i f₀ b)
      ⊢ runs d i (do seq8 i (gRow i xm dm oL oS hL hS); seq8 i (oStart i cc0_scratch9 oo jo))
          (fun _ => iprop((xFree d i xm ∗ dFree d i dm) ∗ oFly d i X D cc0_scratch9 (row i b) ∗ outFrom d i f₀ (b + 1))) := by
  simp only [runs, wp_bind]
  iintro ⟨⟨Hx, Hd⟩, ⟨Hs, Hq⟩, Ho⟩
  iapply (runs_use (gRows_rule d i X D hD xm hx dm hd (row i b) oL oS hL hS eL eS)) $$ [Hx Hd Hs]
  · isplitl [Hx]; · iexact Hx
    isplitl [Hd] <;> iassumption
  iintro %_ ⟨Hx, Hd, Hs⟩
  ihave Ho := (Entails.of_eq (Transfers.bigSep_pending_step (n := 64) (fun b => oWins d f₀ (row i b.val)) b hb)) $$ Ho
  icases Ho with ⟨Hr, Ho⟩
  iapply (runs_use (oStarts_rule d i X D cc0_scratch9 (row i b) (row_le i hb) oo jo eo f₀)) $$ [Hr Hs Hq]
  · isplitl [Hr]; · iexact Hr
    isplitl [Hs] <;> iassumption
  iintro %_ Hf
  isplitl [Hx Hd]
  · isplitl [Hx]
    · iexists _; iexact Hx
    iexists _; iexact Hd
  isplitl [Hf] <;> iassumption

/-- Two steps proved together, run under a continuation. -/
theorem runs_use2 {α β : Type} {p : TP F i α} {p' : α → TP F i β} {P : sProp 𝕄} {Q Q' : β → sProp 𝕄}
    (h : P ⊢ runs d i (p >>= p') Q) :
    P ⊢ iprop((∀ a, Q a -∗ Q' a) -∗ runs d i p (fun a => runs d i (p' a) Q')) := by
  have h' := runs_use (Q' := Q') h
  rwa [runs, wp_bind] at h'

/-- One trip. -/
theorem trip_rule (hD : ∀ j, (D j).toNat < 4096) (t : Fin k0_t1_loop.trips) :
    inv d i X D f₀ O W t.val ⊢ runs d i (trip i t) (fun _ => inv d i X D f₀ O W (t.val + 1)) := by
  have ht : t.val < 32 := lt_of_lt_of_eq t.isLt trips1
  unfold trip
  simp only [runs, wp_bind]
  iintro ⟨#Hw, He, Ho, Hq, Hsrc, Hout, Hdone, HO⟩
  ihave He := (Entails.of_eq (show evens d i X D t.val = _ from if_pos ht)) $$ He
  -- the odd block started
  iapply (runs_use2 d i (starts_rule d i X D sx1 (Memref.isWhole_whole _) cc0_scratch6 sd1 (Memref.isWhole_whole _) cc0_scratch8
    (show 2 * t.val + 1 < 64 by omega) _ (k0_off3_inb i t) (by rw [k0_off3_eq, row]; congr 1; omega)
    _ (k0_off4_inb i t) (fun r => by rw [k0_off4_eq, row]; congr 1; omega))) $$ [Ho Hsrc]
  · isplitl [Ho] <;> iassumption
  iintro %_ ⟨Ho, Hsrc⟩
  -- the even block in, the last odd block's rows out, the even block gathered
  iapply (runs_use2 d i (arrive_rule d i X D O W sx0 (Memref.isWhole_whole _) cc0_scratch5 sd0 (Memref.isWhole_whole _) cc0_scratch7
    (row i (2 * t.val)))) $$ [He HO]
  · isplitr; · iexact Hw
    isplitl [He] <;> iassumption
  iintro %_ ⟨He, ⟨Hs5, Hs7⟩, HO⟩
  iapply (runs_use (flush_rule d i X D O W t)) $$ [Hq Hdone HO]
  · isplitr; · iexact Hw
    isplitl [Hq]; · iexact Hq
    isplitl [Hdone] <;> iassumption
  iintro %_ ⟨Hq, Hdone, HO⟩
  iapply (runs_use2 d i (produce_rule d i X D f₀ hD sx0 (Memref.isWhole_whole _) sd0 (Memref.isWhole_whole _)
    (show 2 * t.val < 64 by omega) offL0 offS0 (inb_of_eq offL0_eq) (inb_of_eq offS0_eq) offL0_eq offS0_eq
    _ (k0_off21_inb i t) (fun r => by rw [k0_off21_eq, row]; congr 1; omega))) $$ [He Hq Hout]
  · isplitl [He]; · iexact He
    isplitl [Hq] <;> iassumption
  iintro %_ ⟨⟨Hx, Hd⟩, Hf, Hout⟩
  -- the next even block started
  iapply (runs_use (refill_rule d i X D t)) $$ [Hx Hd Hs5 Hs7 Hsrc]
  · isplitr [Hsrc]
    · isplitl [Hx Hs5]
      · isplitl [Hx] <;> iassumption
      isplitl [Hd] <;> iassumption
    iexact Hsrc
  iintro %_ ⟨He, Hsrc⟩
  -- the odd block in, the even block's rows out, the odd block gathered
  iapply (runs_use2 d i (arrive_rule d i X D O W sx1 (Memref.isWhole_whole _) cc0_scratch6 sd1 (Memref.isWhole_whole _) cc0_scratch8
    (row i (2 * t.val + 1)))) $$ [Ho HO]
  · isplitr; · iexact Hw
    isplitl [Ho] <;> iassumption
  iintro %_ ⟨Ho, ⟨Hs6, Hs8⟩, HO⟩
  iapply (runs_use (flush_one d i X D O W (show 2 * t.val < 64 by omega))) $$ [Hf Hdone HO]
  · isplitr; · iexact Hw
    isplitl [Hf]; · iexact Hf
    isplitl [Hdone] <;> iassumption
  iintro %_ ⟨Hq, Hdone, HO⟩
  iapply (runs_use2 d i (produce_rule d i X D f₀ hD sx1 (Memref.isWhole_whole _) sd1 (Memref.isWhole_whole _)
    (show 2 * t.val + 1 < 64 by omega) offL1 offS1 (inb_of_eq offL1_eq) (inb_of_eq offS1_eq) offL1_eq offS1_eq
    _ (k0_off40_inb i t) (fun r => by rw [k0_off40_eq, row]; congr 1; omega))) $$ [Ho Hq Hout]
  · isplitl [Ho]; · iexact Ho
    isplitl [Hq] <;> iassumption
  iintro %_ ⟨⟨Hx, Hd⟩, Hf, Hout⟩
  iapply (runs_ret (d := d) (i := i) (0#32 : BitVec 32))
  isplitr; · iexact Hw
  isplitl [He]; · iexact He
  isplitl [Hx Hd Hs6 Hs8]
  · isplitl [Hx Hs6]
    · isplitl [Hx] <;> iassumption
    isplitl [Hd] <;> iassumption
  isplitl [Hf]
  · iapply (Entails.of_eq (show oFly d i X D cc0_scratch9 (row i (2 * t.val + 1)) = outs d i X D (t.val + 1) from
      (if_pos (Nat.succ_pos _)).symm))
    iexact Hf
  isplitl [Hsrc]; · iexact Hsrc
  isplitl [Hout]; · iexact Hout
  isplitl [Hdone]; · iexact Hdone
  iexact HO

/-- The tile's run: from the blocks it reads and the blocks it writes, all its buffers and its semaphores, to its blocks of the
    output at the result. -/
theorem body_rule (hD : ∀ j, (D j).toNat < 4096) :
    iprop(Transfers.MayWaits (thr d i) none O ∗ idle d i sx0 cc0_scratch5 sd0 cc0_scratch7 ∗ idle d i sx1 cc0_scratch6 sd1 cc0_scratch8
        ∗ ((∃ f, soHas d i f) ∗ rest d i cc0_scratch9) ∗ srcFrom d i X D 0 ∗ outFrom d i f₀ 0 ∗ owed d i O W)
      ⊢ runs d i (body i) (fun _ => iprop(idle d i sx0 cc0_scratch5 sd0 cc0_scratch7 ∗ idle d i sx1 cc0_scratch6 sd1 cc0_scratch8
        ∗ ((∃ f, soHas d i f) ∗ rest d i cc0_scratch9) ∗ outTo d i X D 64 ∗ owed d i O W)) := by
  unfold body
  simp only [runs, wp_bind]
  iintro ⟨#Hw, He, Ho, Hq, Hsrc, Hout, HO⟩
  iapply (runs_use2 d i (starts_rule d i X D sx0 (Memref.isWhole_whole _) cc0_scratch5 sd0 (Memref.isWhole_whole _) cc0_scratch7
    (show 0 < 64 by omega) _ (k0_off1_inb i) (by rw [k0_off1_eq]; rfl)
    _ (k0_off2_inb i) (fun r => by rw [k0_off2_eq]; rfl))) $$ [He Hsrc]
  · isplitl [He] <;> iassumption
  iintro %_ ⟨He, Hsrc⟩
  iapply (Scf.wp_for frame _ _ _ _ _ k0_t1_ok (0#32 : BitVec 32) _ (fun t _ => inv d i X D f₀ O W t) ?_)
  · intro t _
    exact trip_rule d i X D f₀ O W hD t
  isplitl [He Ho Hq Hsrc Hout HO]
  · isplitr; · iexact Hw
    isplitl [He]
    · iapply (Entails.of_eq (show _ = evens d i X D 0 from (if_pos (show 0 < 32 by omega)).symm))
      iexact He
    isplitl [Ho]; · iexact Ho
    isplitl [Hq]
    · iapply (Entails.of_eq (show _ = outs d i X D 0 from (if_neg (Nat.lt_irrefl 0)).symm))
      iexact Hq
    isplitl [Hsrc]; · iexact Hsrc
    isplitl [Hout]; · iexact Hout
    isplitr [HO]
    · unfold outTo
      rw [show 2 * 0 - 1 = 0 from rfl, Transfers.issued_zero, bigSep_empty]
      iempintro
    iexact HO
  iintro %_ H
  ihave H := (Entails.of_eq (show inv d i X D f₀ O W k0_t1_loop.trips = inv d i X D f₀ O W 32 by rw [trips1])) $$ [H]
  · iexact H
  icases H with ⟨-, He, Ho, Hf, -, -, Hdone, HO⟩
  ihave He := (Entails.of_eq (show evens d i X D 32 = _ from if_neg (Nat.lt_irrefl 32))) $$ He
  ihave Hf := (Entails.of_eq (show outs d i X D 32 = _ from if_pos (show 0 < 32 by omega))) $$ Hf
  iapply (runs_use (flush_one d i X D O W (show 63 < 64 by omega))) $$ [Hf Hdone HO]
  · isplitr; · iexact Hw
    isplitl [Hf]; · iexact Hf
    isplitl [Hdone] <;> iassumption
  iintro %_ ⟨Hq, Hdone, HO⟩
  isplitl [He]; · iexact He
  isplitl [Ho]; · iexact Ho
  isplitl [Hq]; · iexact Hq
  isplitl [Hdone] <;> iassumption

end Cert.Proof.Tile
-- ==== Proof.Launch.lean ====
/-
  The launch. Half of `x` and half of `d` stay with @main, so that they are known unchanged at the end; the other halves are
  cut into the tiles' blocks, and the output into the tiles' rows. Each tile hands back its rows at the result, and together
  they are the whole output at the result.
-/
module

public import proofs.«01_k».proof.Proof.Tile

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays cut into the tiles' rows -/

/-- The tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The first row of block `b` of tile `s` of SparseCore `c`. -/
theorem row_coordsV (c : Fin 2) (s : Fin 16) (b : ℕ) : row (coordsV c s) b = 1024 * s.val + 512 * c.val + 8 * b := rfl

/-- An element of eight rows of `x`. -/
theorem mem_xSet {n : ℕ} {j : S16384x4096.Idx} : j ∈ xSet n ↔ n ≤ (j 0).val ∧ (j 0).val < n + 8 := by
  simp only [xSet, Finset.mem_filter, Finset.mem_univ, _root_.true_and]

/-- An element of a row. -/
theorem mem_rowSet {n : ℕ} {j : S16384x2048.Idx} : j ∈ rowSet n ↔ (j 0).val = n := by
  simp only [rowSet, Finset.mem_filter, Finset.mem_univ, _root_.true_and]

/-- A block of `x` lies in one tile's one block. -/
theorem blocks_disjoint : ∀ t ∈ (Finset.univ : Finset (Fin 2 × Fin 16 × Fin 64)), ∀ t' ∈ (Finset.univ : Finset (Fin 2 × Fin 16 × Fin 64)),
    t ≠ t' → Disjoint (xSet (row (coordsV t.1 t.2.1) t.2.2.val)) (xSet (row (coordsV t'.1 t'.2.1) t'.2.2.val)) := by
  rintro ⟨c, s, b⟩ - ⟨c', s', b'⟩ - h
  rw [Finset.disjoint_left]
  intro j hj hj'
  replace hj := mem_xSet.1 hj
  replace hj' := mem_xSet.1 hj'
  simp only [row_coordsV] at hj hj'
  have := c.isLt; have := c'.isLt; have := s.isLt; have := s'.isLt; have := b.isLt; have := b'.isLt
  exact h (Prod.ext (Fin.ext (by dsimp only; omega)) (Prod.ext (Fin.ext (by dsimp only; omega)) (Fin.ext (by dsimp only; omega))))

/-- Every element of `x` lies in a tile's block. -/
theorem blocks_cover (j : S16384x4096.Idx) :
    ∃ t : Fin 2 × Fin 16 × Fin 64, j ∈ xSet (row (coordsV t.1 t.2.1) t.2.2.val) := by
  have hj : (j 0).val < 16384 := (j 0).isLt
  refine ⟨(⟨(j 0).val / 512 % 2, by omega⟩, ⟨(j 0).val / 1024, by omega⟩, ⟨(j 0).val % 512 / 8, by omega⟩), mem_xSet.2 ?_⟩
  simp only [row_coordsV]
  omega

/-- A row lies in one tile's one block, once. -/
theorem rows_disjoint : ∀ t ∈ (Finset.univ : Finset (Fin 2 × Fin 16 × Fin 64 × Fin 8)),
    ∀ t' ∈ (Finset.univ : Finset (Fin 2 × Fin 16 × Fin 64 × Fin 8)), t ≠ t' →
    Disjoint (rowSet (row (coordsV t.1 t.2.1) t.2.2.1.val + t.2.2.2.val)) (rowSet (row (coordsV t'.1 t'.2.1) t'.2.2.1.val + t'.2.2.2.val)) := by
  rintro ⟨c, s, b, r⟩ - ⟨c', s', b', r'⟩ - h
  rw [Finset.disjoint_left]
  intro j hj hj'
  replace hj := mem_rowSet.1 hj
  replace hj' := mem_rowSet.1 hj'
  simp only [row_coordsV] at hj hj'
  have := c.isLt; have := c'.isLt; have := s.isLt; have := s'.isLt; have := b.isLt; have := b'.isLt; have := r.isLt; have := r'.isLt
  exact h (Prod.ext (Fin.ext (by dsimp only; omega)) (Prod.ext (Fin.ext (by dsimp only; omega))
    (Prod.ext (Fin.ext (by dsimp only; omega)) (Fin.ext (by dsimp only; omega)))))

/-- Every element of an array of 16384 rows lies in a row of a tile's block. -/
theorem rows_cover (j : S16384x2048.Idx) :
    ∃ t : Fin 2 × Fin 16 × Fin 64 × Fin 8, j ∈ rowSet (row (coordsV t.1 t.2.1) t.2.2.1.val + t.2.2.2.val) := by
  have hj : (j 0).val < 16384 := (j 0).isLt
  refine ⟨(⟨(j 0).val / 512 % 2, by omega⟩, ⟨(j 0).val / 1024, by omega⟩, ⟨(j 0).val % 512 / 8, by omega⟩, ⟨(j 0).val % 8, by omega⟩),
    mem_rowSet.2 ?_⟩
  simp only [row_coordsV]
  omega

section Cut

variable (d : Dev nD) (X : S16384x4096.Idx → Elt F .f32) (D : S16384x2048.Idx → Elt F .i32) (f : S16384x2048.Idx → Elt F .f32)

/-- The half of `x` to read is the tiles' blocks of it. -/
theorem cut_x : (xLoc d ↦{fullShare.right} X : sProp 𝕄)
    = bigSep Finset.univ fun c : Fin 2 => bigSep Finset.univ fun s : Fin 16 => bigSep Finset.univ fun b : Fin 64 =>
        xWin d X (row (coordsV c s) b.val) := by
  rw [pointsTo_cut (ℓ := xLoc d) (T := Fin 2 × Fin 16 × Fin 64) (fun t => xSet (row (coordsV t.1 t.2.1) t.2.2.val)) fullShare.right X
    blocks_disjoint blocks_cover, bigSep_univ_prod]
  simp only [bigSep_univ_prod]

/-- The half of `d` to read is the tiles' rows of it. -/
theorem cut_d : (dLoc d ↦{fullShare.right} D : sProp 𝕄)
    = bigSep Finset.univ fun c : Fin 2 => bigSep Finset.univ fun s : Fin 16 => bigSep Finset.univ fun b : Fin 64 =>
        dWins d D (row (coordsV c s) b.val) := by
  rw [pointsTo_cut (ℓ := dLoc d) (T := Fin 2 × Fin 16 × Fin 64 × Fin 8)
    (fun t => rowSet (row (coordsV t.1 t.2.1) t.2.2.1.val + t.2.2.2.val)) fullShare.right D rows_disjoint rows_cover, bigSep_univ_prod]
  simp only [bigSep_univ_prod]

/-- The output is the tiles' rows of it. -/
theorem cut_o : (oLoc d ↦{fullShare} f : sProp 𝕄)
    = bigSep Finset.univ fun c : Fin 2 => bigSep Finset.univ fun s : Fin 16 => bigSep Finset.univ fun b : Fin 64 =>
        oWins d f (row (coordsV c s) b.val) := by
  rw [pointsTo_cut (ℓ := oLoc d) (T := Fin 2 × Fin 16 × Fin 64 × Fin 8)
    (fun t => rowSet (row (coordsV t.1 t.2.1) t.2.2.1.val + t.2.2.2.val)) fullShare f rows_disjoint rows_cover, bigSep_univ_prod]
  simp only [bigSep_univ_prod]

/-- What the tile at `i` takes: its blocks of `x` and `d` to read, its blocks of the output. -/
abbrev takes (i : grid0.Coords) : sProp 𝕄 := iprop(srcFrom d i X D 0 ∗ outFrom d i f 0)

/-- The arrays dealt to the tiles. -/
theorem deal : iprop((xLoc d ↦{fullShare.right} X) ∗ (dLoc d ↦{fullShare.right} D) ∗ (oLoc d ↦{fullShare} f))
    ⊢ (bigSep Finset.univ fun c : Fin 2 => bigSep Finset.univ fun s : Fin 16 => takes d X D f (coordsV c s) : sProp 𝕄) := by
  refine BIBase.Entails.trans ?_ (Entails.of_eq (show iprop(((bigSep Finset.univ fun c : Fin 2 => bigSep Finset.univ fun s : Fin 16 =>
      bigSep Finset.univ fun b : Fin 64 => xWin d X (row (coordsV c s) b.val)) ∗ (bigSep Finset.univ fun c : Fin 2 =>
      bigSep Finset.univ fun s : Fin 16 => bigSep Finset.univ fun b : Fin 64 => dWins d D (row (coordsV c s) b.val)))
      ∗ (bigSep Finset.univ fun c : Fin 2 => bigSep Finset.univ fun s : Fin 16 => bigSep Finset.univ fun b : Fin 64 =>
        oWins d f (row (coordsV c s) b.val))) = _ from ?_))
  · rw [cut_x, cut_d, cut_o]
    iintro ⟨Hx, Hd, Ho⟩
    isplitr [Ho]
    · isplitl [Hx] <;> iassumption
    iexact Ho
  · simp only [takes, srcFrom, outFrom, Transfers.pending_zero, bigSep_sep']

/-- The tiles' rows at the result are the output at the result. -/
theorem undeal : (bigSep Finset.univ fun c : Fin 2 => bigSep Finset.univ fun s : Fin 16 => outTo d (coordsV c s) X D 64 : sProp 𝕄)
    = iprop(oLoc d ↦{fullShare} G X D) := by
  rw [cut_o]
  simp only [outTo, Transfers.issued_all]

end Cut

/-! ## What the launch carries -/

variable (m : (ℓ : Loc nD τ sig) → Buf (Elt F) ℓ) (ρ : Dev nD → PrngReg)

/-- The contents of `x`, of `d` and of the output at the launch. -/
abbrev Xm (d : Dev nD) : S16384x4096.Idx → Elt F .f32 := m (xLoc d)
abbrev Dm (d : Dev nD) : S16384x2048.Idx → Elt F .i32 := m (dLoc d)
abbrev Om (d : Dev nD) : S16384x2048.Idx → Elt F .f32 := m (oLoc d)

/-- Every index is a column of `x`. -/
def PreOK : Prop := ∀ (d : Dev nD) (j : S16384x2048.Idx), (Dm m d j).toNat < 4096

/-- Each tile is handed its blocks, and hands back its blocks of the output at the result; a SparseCore, its tiles'. -/
def P : (K (F := F)).Pay (nD := nD) (Val := Elt F) (Name := ℕ) (U := UU) where
  st := fun q d c => match q with
    | 0 => bigSep Finset.univ fun s : Fin 16 => takes d (Xm m d) (Dm m d) (Om m d) (coordsV c s)
  dn := fun q d c => match q with
    | 0 => bigSep Finset.univ fun s : Fin 16 => outTo d (coordsV c s) (Xm m d) (Dm m d) 64
  go := fun q d c s => match q with
    | 0 => takes d (Xm m d) (Dm m d) (Om m d) (coordsV c s)
  td := fun q d c s => match q with
    | 0 => outTo d (coordsV c s) (Xm m d) (Dm m d) 64
  x := fun _ _ => iprop(emp)

instance P_storable : (P (F := F) m).IsStorable where
  st q d c := match q with
    | 0 => (inferInstance : BI.Storable (upEmb : UEmb _ 𝕄)
        (bigSep Finset.univ fun s : Fin 16 => takes d (Xm m d) (Dm m d) (Om m d) (coordsV c s)))
  dn q d c := match q with
    | 0 => (inferInstance : BI.Storable (upEmb : UEmb _ 𝕄)
        (bigSep Finset.univ fun s : Fin 16 => outTo d (coordsV c s) (Xm m d) (Dm m d) 64))
  go q d c s := match q with
    | 0 => (inferInstance : BI.Storable (upEmb : UEmb _ 𝕄) (takes d (Xm m d) (Dm m d) (Om m d) (coordsV c s)))
  td q d c s := match q with
    | 0 => (inferInstance : BI.Storable (upEmb : UEmb _ 𝕄) (outTo d (coordsV c s) (Xm m d) (Dm m d) 64))

/-! ## The tile's own buffers and semaphores -/

section Own

variable (d : Dev nD) (i : grid0.Coords)

/-- A copy semaphore of the kernel is among the tile's own. -/
theorem sem_own (s : DmaSems sig S_) (h : (SemLoc.dma s.sem : SemLoc sig).isScoped .scVector = true) :
    ((thr d i, .dma s.sem) : GSem nD τ sig) ∈ ownCells (thr d i) := (mem_ownCells (g := (thr d i, .dma s.sem))).mpr ⟨rfl, h⟩

/-- Two copy semaphores of a tile that are two are two of the tile's. -/
theorem sem_ne {s s' : DmaSems sig S_} (h : s.sem ≠ s'.sem) : ((thr d i, .dma s.sem) : GSem nD τ sig) ≠ (thr d i, .dma s'.sem) :=
  fun e => h (SemLoc.dma.inj (Prod.mk.inj e).2)

/-- A buffer of the kernel is among the tile's own. -/
theorem buf_own (b : Ref sig .scVector) (h : ((thr d i).2.devRef b).owner = .proc (thr d i).2) :
    (thr d i).2.devRef b ∈ ownRefs (τ := τ) (thr d i).2 := SparseCore.Cfg.mem_ownRefs_of_owner h

/-- Two buffers of the kernel are two of the tile's. -/
theorem buf_ne {b b' : Ref sig .scVector} (h : b ≠ b') : (thr d i).2.devRef b ≠ (thr d i).2.devRef b' :=
  fun e => h (Proc.devRef_injective _ e)

/-- The semaphores left aside. -/
abbrev semsLeft : sProp 𝕄 :=
  bigSep ((((((ownCells (thr d i)).erase (thr d i, .dma (cc0_scratch5 : DmaSems sig S_).sem)).erase (thr d i, .dma (cc0_scratch6 : DmaSems sig S_).sem)).erase
    (thr d i, .dma (cc0_scratch7 : DmaSems sig S_).sem)).erase (thr d i, .dma (cc0_scratch8 : DmaSems sig S_).sem)).erase
    (thr d i, .dma (cc0_scratch9 : DmaSems sig S_).sem)) fun g => semVal g 0

/-- The tile's semaphores are the kernel's five and the rest. -/
theorem ownSems0_V : (ownSems0 (thr d i) : sProp 𝕄)
    = iprop(rest d i cc0_scratch5 ∗ rest d i cc0_scratch6 ∗ rest d i cc0_scratch7 ∗ rest d i cc0_scratch8 ∗ rest d i cc0_scratch9
        ∗ semsLeft (F := F) d i) := by
  unfold SparseCore.Cfg.ownSems0
  rw [SparseCore.bigSep_erase' (sem_own d i cc0_scratch5 (by decide)),
    SparseCore.bigSep_erase' (Finset.mem_erase.mpr ⟨sem_ne d i (by decide), sem_own d i cc0_scratch6 (by decide)⟩),
    SparseCore.bigSep_erase' (Finset.mem_erase.mpr ⟨sem_ne d i (by decide), Finset.mem_erase.mpr ⟨sem_ne d i (by decide),
      sem_own d i cc0_scratch7 (by decide)⟩⟩),
    SparseCore.bigSep_erase' (Finset.mem_erase.mpr ⟨sem_ne d i (by decide), Finset.mem_erase.mpr ⟨sem_ne d i (by decide),
      Finset.mem_erase.mpr ⟨sem_ne d i (by decide), sem_own d i cc0_scratch8 (by decide)⟩⟩⟩),
    SparseCore.bigSep_erase' (Finset.mem_erase.mpr ⟨sem_ne d i (by decide), Finset.mem_erase.mpr ⟨sem_ne d i (by decide),
      Finset.mem_erase.mpr ⟨sem_ne d i (by decide), Finset.mem_erase.mpr ⟨sem_ne d i (by decide), sem_own d i cc0_scratch9 (by decide)⟩⟩⟩⟩)]

/-- The buffers left aside. -/
abbrev bufsLeft : sProp 𝕄 :=
  bigSep ((((((ownRefs (τ := τ) (thr d i).2).erase ((thr d i).2.devRef cc0_scratch0)).erase ((thr d i).2.devRef cc0_scratch1)).erase
    ((thr d i).2.devRef cc0_scratch2)).erase ((thr d i).2.devRef cc0_scratch3)).erase ((thr d i).2.devRef cc0_scratch4))
    fun b => iprop(∃ f, ((d, b) : Loc nD τ sig) ↦{fullShare} f)

/-- The tile's buffers are the kernel's five and the rest. -/
theorem ownBufs_V : (ownBufs (thr d i) : sProp 𝕄)
    = iprop((∃ f, (thr d i).loc cc0_scratch0 ↦{fullShare} f) ∗ (∃ f, (thr d i).loc cc0_scratch1 ↦{fullShare} f)
        ∗ (∃ f, (thr d i).loc cc0_scratch2 ↦{fullShare} f) ∗ (∃ f, (thr d i).loc cc0_scratch3 ↦{fullShare} f)
        ∗ (∃ f, (thr d i).loc cc0_scratch4 ↦{fullShare} f) ∗ bufsLeft (F := F) d i) := by
  unfold SparseCore.Cfg.ownBufs
  refine (SparseCore.bigSep_erase' (buf_own d i cc0_scratch0 rfl)).trans ?_
  rw [SparseCore.bigSep_erase' (Finset.mem_erase.mpr ⟨buf_ne d i (by decide), buf_own d i cc0_scratch1 rfl⟩),
    SparseCore.bigSep_erase' (Finset.mem_erase.mpr ⟨buf_ne d i (by decide), Finset.mem_erase.mpr ⟨buf_ne d i (by decide),
      buf_own d i cc0_scratch2 rfl⟩⟩),
    SparseCore.bigSep_erase' (Finset.mem_erase.mpr ⟨buf_ne d i (by decide), Finset.mem_erase.mpr ⟨buf_ne d i (by decide),
      Finset.mem_erase.mpr ⟨buf_ne d i (by decide), buf_own d i cc0_scratch3 rfl⟩⟩⟩),
    SparseCore.bigSep_erase' (Finset.mem_erase.mpr ⟨buf_ne d i (by decide), Finset.mem_erase.mpr ⟨buf_ne d i (by decide),
      Finset.mem_erase.mpr ⟨buf_ne d i (by decide), Finset.mem_erase.mpr ⟨buf_ne d i (by decide), buf_own d i cc0_scratch4 rfl⟩⟩⟩⟩)]

end Own

/-! ## The tile's obligation -/

/-- The tile's run as the launch asks for it. -/
theorem tile_body (d : Dev nD) (i : grid0.Coords) (hF : (K (F := F)).Facts) (hpre : PreOK m)
    (O : CellTallies nD τ sig (HIx 1)) (W : Waits sig (HIx 1)) (hO : ∀ g, O g none = 0) :
    iprop(levAts (K (F := F)).L (K (F := F)).lev ∗ emp ∗ takes d (Xm m d) (Dm m d) (Om m d) i
        ∗ scopedBufs (thr d i) ∗ scopedSems0 (thr d i) ∗ owes (thr d i) O W)
      ⊢ wp frame (wpE (defs₀ (F := F)) 𝒱₀ (thr d i) none) Set.univ
          (cc0__sc_gather_body (F := F) i xV (Memref.isWhole_whole _) dV (Memref.isWhole_whole _) oV (Memref.isWhole_whole _)
            sx0 (Memref.isWhole_whole _) sx1 (Memref.isWhole_whole _) sd0 (Memref.isWhole_whole _) sd1 (Memref.isWhole_whole _)
            so (Memref.isWhole_whole _) cc0_scratch5 cc0_scratch6 cc0_scratch7 cc0_scratch8 cc0_scratch9)
          fun _ => iprop(outTo d i (Xm m d) (Dm m d) 64 ∗ scopedBufs (thr d i) ∗ scopedSems0 (thr d i)
            ∗ ∃ W', ⌜∀ p ∈ W', p ∈ W ∨ p.2 = none⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V, body_eq]
  iintro ⟨Hlv, -, ⟨Hsrc, Hout⟩, ⟨Hx0, Hx1, Hd0, Hd1, Ho, Hbl⟩, ⟨Hs5, Hs6, Hs7, Hs8, Hs9, Hsl⟩, HO⟩
  ihave Hw := ((K (F := F)).mayWaits_none (thr := thr d i) hO) $$ Hlv
  iapply (runs_use (body_rule d i (Xm m d) (Dm m d) (Om m d) O W (hpre d))) $$ [Hw Hsrc Hout Hx0 Hx1 Hd0 Hd1 Ho Hs5 Hs6 Hs7 Hs8 Hs9 HO]
  · isplitl [Hw]; · iexact Hw
    isplitl [Hx0 Hd0 Hs5 Hs7]
    · isplitl [Hx0 Hs5]
      · isplitl [Hx0]; · iexact Hx0
        iexact Hs5
      isplitl [Hd0]; · iexact Hd0
      iexact Hs7
    isplitl [Hx1 Hd1 Hs6 Hs8]
    · isplitl [Hx1 Hs6]
      · isplitl [Hx1]; · iexact Hx1
        iexact Hs6
      isplitl [Hd1]; · iexact Hd1
      iexact Hs8
    isplitl [Ho Hs9]
    · isplitl [Ho]; · iexact Ho
      iexact Hs9
    isplitl [Hsrc]; · iexact Hsrc
    isplitl [Hout]; · iexact Hout
    unfold owed
    iexists W; isplitr
    · ipureintro; exact fun p hp => Or.inl hp
    iexact HO
  unfold owed
  iintro %_ ⟨⟨⟨Hx0, Hs5⟩, ⟨Hd0, Hs7⟩⟩, ⟨⟨Hx1, Hs6⟩, ⟨Hd1, Hs8⟩⟩, ⟨Ho, Hs9⟩, Hdone, HO⟩
  isplitl [Hdone]; · iexact Hdone
  isplitl [Hx0 Hx1 Hd0 Hd1 Ho Hbl]
  · isplitl [Hx0]; · iexact Hx0
    isplitl [Hx1]; · iexact Hx1
    isplitl [Hd0]; · iexact Hd0
    isplitl [Hd1]; · iexact Hd1
    isplitl [Ho]; · iexact Ho
    iexact Hbl
  isplitr [HO]
  · isplitl [Hs5]; · iexact Hs5
    isplitl [Hs6]; · iexact Hs6
    isplitl [Hs7]; · iexact Hs7
    isplitl [Hs8]; · iexact Hs8
    isplitl [Hs9]; · iexact Hs9
    iexact Hsl
  iexact HO

/-- A tile runs the kernel at its own coordinates. -/
theorem defs₀_vector (c : Fin τ.nSC) (s : Fin τ.nSub) :
    defs₀ (F := F) (.scVector c s) 0 ()
      = SparseCore.onTile hcore0 hsub0 (fun c s => cc0__sc_gather_body (F := F) (coordsV c s)
          xV (Memref.isWhole_whole _) dV (Memref.isWhole_whole _) oV (Memref.isWhole_whole _)
          sx0 (Memref.isWhole_whole _) sx1 (Memref.isWhole_whole _) sd0 (Memref.isWhole_whole _) sd1 (Memref.isWhole_whole _)
          so (Memref.isWhole_whole _) cc0_scratch5 cc0_scratch6 cc0_scratch7 cc0_scratch8 cc0_scratch9) ⟨⟩ c s := rfl

omit [FloatOps F] in
/-- Waits for the tile's own copies are among those the launch allows. -/
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile meets what the launch asks of it. -/
theorem tileObl (hF : (K (F := F)).Facts) (hpre : PreOK m) : (K (F := F)).TileObl (Tile.D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (Tile.D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-- A SparseCore's share is its tiles' shares. -/
theorem vecSplit : (K (F := F)).VecSplit' (P m) 0 := by
  intro d c
  show (bigSep Finset.univ fun s : Fin 16 => takes d (Xm m d) (Dm m d) (Om m d) (coordsV c s)) ⊢ |={Set.univ}=> iprop(
      (bigSep Finset.univ fun s : Fin 16 => takes d (Xm m d) (Dm m d) (Om m d) (coordsV c s))
      ∗ ((bigSep Finset.univ fun s : Fin 16 => outTo d (coordsV c s) (Xm m d) (Dm m d) 64)
          -∗ (bigSep Finset.univ fun s : Fin 16 => outTo d (coordsV c s) (Xm m d) (Dm m d) 64)))
  iintro H; imodintro
  isplitl [H]; · iexact H
  iintro H; iexact H

/-! ## The launch element: the handshakes' rounds; nothing of the kernel's own -/

/-- The launch's ghost element. -/
def u₀ : UU := (initOf (K (F := F)).hsCells (K (F := F)).hsToks, 1)

omit [FloatOps F] in
/-- Nothing, however often. -/
theorem bigSep_emp' {I : Type} (s : Finset I) : (bigSep s fun _ => iprop(emp)) = (iprop(emp) : sProp 𝕄) := bigSep_emp_const s

/-- The launch's element is the handshakes'. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- @main's buffers are the two arguments and the output. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (dLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main ends with: its halves of the arguments, as they were, and the output at the result. -/
abbrev FIN (d : Dev nD) : sProp 𝕄 :=
  iprop((xLoc d ↦{fullShare.left} m (xLoc d)) ∗ (dLoc d ↦{fullShare.left} m (dLoc d)) ∗ oLoc d ↦{fullShare} G (Xm m d) (Dm m d))

/-- A whole buffer is its two halves. -/
theorem halves (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1

/-- @main on device `d`'s TensorCore: the one call, dealt the arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (Tile.D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hd, Ho⟩, Hts, -⟩, -⟩
  ihave Hx := (halves (xLoc d) (m (xLoc d))) $$ Hx
  icases Hx with ⟨Hxl, Hxr⟩
  ihave Hd := (halves (dLoc d) (m (dLoc d))) $$ Hd
  icases Hd with ⟨Hdl, Hdr⟩
  iapply ((K (F := F)).wp_run (Tile.D (F := F)) 𝒱 (EH := EH) (P := P m) κ d 0) $$ [Hst Hxr Hdr Ho Hxl Hdl Hb Hts]
  isplitr; · iexact Hctx
  isplitl [Hst]; · iexact Hst
  isplitl [Hxr Hdr Ho]
  · ihave H := (deal d (Xm m d) (Dm m d) (Om m d)) $$ [Hxr Hdr Ho]
    · isplitl [Hxr]; · iexact Hxr
      isplitl [Hdr] <;> iassumption
    iexact H
  iintro ⟨Hst, Hdn⟩
  ihave Ho := (Entails.of_eq (undeal d (Xm m d) (Dm m d))) $$ [Hdn]
  · iexact Hdn
  imodintro
  isplitl [Hst]; · iexact Hst
  isplitr [Hb Hts]
  · isplitl [Hxl]; · iexact Hxl
    isplitl [Hdl] <;> iassumption
  isplitl [Hb] <;> iassumption

/-- What the end shows of the memory. -/
def fq (d : Dev nD) (s' : Phys nD τ sig (Elt F)) : Prop :=
  s'.mem.mem (xLoc d) = m (xLoc d) ∧ s'.mem.mem (dLoc d) = m (dLoc d) ∧ s'.mem.mem (oLoc d) = G (Xm m d) (Dm m d)

/-- What @main ends with shows it. -/
theorem hfin (d : Dev nD) (s' : Phys nD τ sig (Elt F)) : iprop(FIN m d ∗ SI s') ⊢ (⌜fq m d s'⌝ : sProp 𝕄) := by
  iintro ⟨⟨Hx, Hd, Ho⟩, HSI⟩
  ihave H := (persistent_entails_right (SI_pointsTo_agree (st := s') (ℓ := xLoc d) (I := Finset.univ) (q := fullShare.left) (f := m (xLoc d)))) $$ [HSI Hx]
  · isplitl [HSI] <;> iassumption
  icases H with ⟨%h1, HSI, -⟩
  ihave H := (persistent_entails_right (SI_pointsTo_agree (st := s') (ℓ := dLoc d) (I := Finset.univ) (q := fullShare.left) (f := m (dLoc d)))) $$ [HSI Hd]
  · isplitl [HSI] <;> iassumption
  icases H with ⟨%h2, HSI, -⟩
  ihave H := (SI_pointsTo_agree (st := s') (ℓ := oLoc d) (I := Finset.univ) (q := fullShare) (f := G (Xm m d) (Dm m d))) $$ [HSI Ho]
  · isplitl [HSI] <;> iassumption
  icases H with %h3
  ipureintro
  exact ⟨funext fun j => h1 j (Finset.mem_univ j), funext fun j => h2 j (Finset.mem_univ j), funext fun j => h3 j (Finset.mem_univ j)⟩

/-! ## The program's run -/

/-- The end of the run: the arguments as they were, the output at the result, every semaphore at zero. -/
def QC : PUnit × MemSt nD τ sig (Elt F) → Prop := fun r =>
  (∀ c : Dev nD, r.2.mem (xLoc c) = m (xLoc c) ∧ r.2.mem (dLoc c) = m (dLoc c) ∧ r.2.mem (oLoc c) = G (Xm m c) (Dm m c)) ∧ r.2.sem = fun _ => 0

/-- The program runs to that end, from every launch memory whose indices are columns of `x`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := Tile.D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile
-- ==== Proof.Ref.lean ====
/-
  The reference. It wraps a negative index by adding the row length, marks the indices which then lie in the row, gathers
  along the row at the indices clamped into it, and keeps the gathered element where the mark stands. For indices from 0 up
  to the row length nothing is wrapped, every mark stands and nothing is clamped: element `(i, j)` is `x (i, d (i, j))`.
-/
module

public import proofs.«01_k».proof.Proof.Pieces
public import proofs.«01_k».proof.Defs
public import proofs.«01_k».proof.Proof.Gen.ReferenceIdeal.Run
public import proofs.«01_k».proof.Proof.Gen.Pre_in_range
public import Idealize.ShloMosaic.Lib.Quiescent
public import Idealize.ShloMosaic.Lib.ReduceAll
public import Idealize.ShloMosaic.Lib.ValueIdxCore
public import Idealize.ShloMosaic.Lib.Pipeline.Value
public import Idealize.ShloMosaic.Lib.Affine

@[expose] public section

noncomputable section

namespace Cert.Proof.Ref

open Cert.ReferenceIdeal Cert.ReferenceIdeal.Gen
open Idealize.ShloMosaic Idealize.ShloMosaic.ValueIdx Idealize.SL.Sem

variable {F : FTy → Type} [FloatOps F]

/-! ## Index words in range -/

/-- A word below 4096 reads the same signed. -/
theorem toInt_of_lt {v : BitVec 32} (h : v.toNat < 4096) : v.toInt = (v.toNat : ℤ) := by
  rw [BitVec.toInt_eq_toNat_cond, if_pos (by omega)]

/-- A word which is at least 0 and below 4096, compared signed, is below 4096 unsigned. -/
theorem lt_of_signed {v : BitVec 32} (h : IntOp.andi (IntOp.cmpi .sge v 0#32) (IntOp.cmpi .slt v 4096#32) = 1#1) :
    v.toNat < 4096 := by
  obtain ⟨h0, h1⟩ := IntOp.andi_eq_one.mp h
  have h0 := IntOp.cmpi_sge.mp h0
  have h1 := IntOp.cmpi_slt.mp h1
  have e0 : (0#32 : BitVec 32).toInt = 0 := by decide
  have e1 : (4096#32 : BitVec 32).toInt = 4096 := by decide
  rw [e0] at h0; rw [e1] at h1
  have := v.isLt
  rw [BitVec.toInt_eq_toNat_cond] at h0 h1
  split at h0 <;> omega

/-- The range predicate holding says that every index is below 4096. -/
theorem lt_of_pre (X : FVec F Cert.Pre_in_range.S16384x4096 .f32) (D : IVec Cert.Pre_in_range.S16384x2048 32)
    (h : Cert.Pre_in_range.fn (F := F) X D = fun _ => 1#1) (j : S16384x2048.Idx) : (D j).toNat < 4096 := by
  haveI : Subsingleton Cert.Pre_in_range.S_.Idx := ⟨fun a b => funext fun i => i.elim0⟩
  exact lt_of_signed (Host.reduce_andi_all _ _ _ _ (fun i => i.elim0) (congrFun h _) j)

/-! ## The gather along the rows -/

/-- The index arrays' element: index `(i, j)` of an array with a last axis of length one. -/
def col (y : S16384x2048.Idx) : S16384x2048x1.Idx := ix3 (y 0) (y 1) (0 : Fin 1)

/-- The gather reads, at `(i, j)`, row `i` of its operand at the index word of `(i, j)`, read signed and clamped into the row. -/
theorem gather_at {α : Type} (X : S16384x4096.Idx → α) (W : IVec S16384x2048x1 32) (y : S16384x2048.Idx) :
    Host.gather gather_S16384x4096_S16384x2048x1_S16384x2048_n_1_0_0_1_2_11 X W y
      = X (ix2 (y 0) ⟨min (W (col y)).toInt.toNat 4095, by omega⟩) := by
  let g := gather_S16384x4096_S16384x2048x1_S16384x2048_n_1_0_0_1_2_11
  have hrow : g.start y W (0 : Fin 2) + g.batchCoord y (0 : Fin 2) + g.offCoord y (0 : Fin 2) = (y 0).val := by
    have hb : (0 : Fin 2) ∈ g.operandBatchingDims := List.mem_singleton.mpr rfl
    rw [g.start_batching y W _ hb, g.offCoord_eq_zero y _ fun h => ((g.mem_sKept _).mp h).2 hb, Nat.zero_add, Nat.add_zero]
    unfold GatherDims.batchCoord
    rw [dif_pos hb]
    rfl
  have hcol : g.start y W (1 : Fin 2) + g.batchCoord y (1 : Fin 2) + g.offCoord y (1 : Fin 2)
      = min (W (col y)).toInt.toNat 4095 := by
    have hs : (1 : Fin 2) ∈ g.startIndexMap := List.mem_singleton.mpr rfl
    have hi : g.siIdx y ⟨List.idxOf (1 : Fin 2) g.startIndexMap, List.idxOf_lt_length_iff.2 hs⟩ = col y :=
      funext fun | ⟨0, _⟩ => Fin.ext rfl | ⟨1, _⟩ => Fin.ext rfl | ⟨2, _⟩ => Fin.ext rfl
    rw [g.batchCoord_eq_zero y _ (show (1 : Fin 2) ∉ [(0 : Fin 2)] by decide),
      g.offCoord_eq_zero y _ fun h => ((g.mem_sKept _).mp h).1 (List.mem_singleton.mpr rfl), Nat.add_zero]
    unfold GatherDims.start
    rw [dif_pos hs, hi]
    rfl
  unfold Host.gather
  exact congrArg X (funext fun | ⟨0, _⟩ => Fin.ext hrow | ⟨1, _⟩ => Fin.ext hcol)

/-! ## The value -/

/-- A choice by a mask of ones is its first operand. -/
theorem select_ones {s : Shape} {α : Type} (c : IVec s 1) (a b : s.Idx → α) (h : ∀ i, c i = 1#1) : select c a b = a :=
  funext fun i => if_pos (h i)

/-- The index words as the reference wraps them. -/
def wrapped (D : IVec S16384x2048 32) : IVec S16384x2048 32 :=
  select (cmpi .slt D (broadcastInDim S16384x2048 ![] bcast_S_S16384x2048 (constantI S_ 32 0#32)))
    (addi D (broadcastInDim S16384x2048 ![] bcast_S_S16384x2048 (constantI S_ 32 4096#32))) D

/-- Indices in range are not wrapped. -/
theorem wrapped_eq (D : IVec S16384x2048 32) (hD : ∀ j, (D j).toNat < 4096) : wrapped D = D := by
  funext j
  show Scalar.select (IntOp.cmpi .slt (D j) 0#32) _ (D j) = D j
  refine if_neg fun h => ?_
  have h := IntOp.cmpi_slt.mp h
  rw [toInt_of_lt (hD j), show (0#32 : BitVec 32).toInt = 0 by decide] at h
  omega

/-- The index words with a last axis of length one. -/
theorem cast_at (D : IVec S16384x2048 32) (i : S16384x2048x1.Idx) :
    shapeCast S16384x2048x1 D shapeCasts_S16384x2048_S16384x2048x1 i = D (ix2 (i 0) (i 1)) :=
  shapeCast_apply _ _ _ _ (by
    have h2 : (i 2).val < 1 := (i 2).isLt
    rw [Shape.rowMajor_val_two, Shape.rowMajor_val_three]
    show (i 0).val * 2048 + (i 1).val = ((i 0).val * 2048 + (i 1).val) * 1 + (i 2).val
    omega)

/-- The reference's value, as a function of its arguments. -/
def value (X : FVec F S16384x4096 .f32) (D : IVec S16384x2048 32) : FVec F S16384x2048 .f32 :=
  select
    (Host.reduce IntOp.andi
      (andi
        (cmpi .sge (shapeCast S16384x2048x1 (wrapped D) shapeCasts_S16384x2048_S16384x2048x1)
          (broadcastInDim S16384x2048x1 ![] bcast_S_S16384x2048x1 (constantI S_ 32 0#32)))
        (cmpi .sle (shapeCast S16384x2048x1 (wrapped D) shapeCasts_S16384x2048_S16384x2048x1)
          (broadcastInDim S16384x2048x1 ![0, 1, 2] bcast_S1x1x1_S16384x2048x1_0_1_2
            (broadcastInDim S1x1x1 ![2] bcast_S1_S1x1x1_2 (constantI S1 32 4095#32)))))
      (constantI S_ 1 1#1) reducesTo_S16384x2048x1_S16384x2048_d2 h_S_)
    (Host.gather gather_S16384x4096_S16384x2048x1_S16384x2048_n_1_0_0_1_2_11 X
      (shapeCast S16384x2048x1 (wrapped D) shapeCasts_S16384x2048_S16384x2048x1))
    (broadcastInDim S16384x2048 ![] bcast_S_S16384x2048 (constant S_ .f32 0x7FC00000#32))

/-- For indices in range the reference's value is `x (i, d (i, j))` at `(i, j)`. -/
theorem value_eq (X : FVec F S16384x4096 .f32) (D : IVec S16384x2048 32) (hD : ∀ j, (D j).toNat < 4096) :
    value X D = Cert.Proof.Tile.G X D := by
  have e0 : (0#32 : BitVec 32).toInt = 0 := by decide
  have e1 : (4095#32 : BitVec 32).toInt = 4095 := by decide
  unfold value
  rw [wrapped_eq D hD, select_ones]
  · funext y
    rw [gather_at]
    have hy : (ix2 (col y 0) (col y 1) : S16384x2048.Idx) = y := funext fun | ⟨0, _⟩ => rfl | ⟨1, _⟩ => rfl
    have e : (D y).toInt.toNat = (D y).toNat := by rw [toInt_of_lt (hD y), Int.toNat_natCast]
    refine congrArg X (congrArg (ix2 (y 0)) (Fin.ext ?_))
    show min (shapeCast S16384x2048x1 D _ (col y)).toInt.toNat 4095 = (D y).toNat % 4096
    rw [cast_at, hy, e, Nat.mod_eq_of_lt (hD y)]
    exact Nat.min_eq_left (Nat.le_of_lt_succ (hD y))
  · intro y
    refine Host.reduce_andi_one _ _ _ _ _ rfl fun i => ?_
    show IntOp.andi (IntOp.cmpi .sge (shapeCast S16384x2048x1 D _ i) 0#32)
      (IntOp.cmpi .sle (shapeCast S16384x2048x1 D _ i) 4095#32) = 1#1
    rw [cast_at]
    have h := hD (ix2 (i 0) (i 1))
    refine IntOp.andi_eq_one.mpr ⟨IntOp.cmpi_sge.mpr ?_, IntOp.cmpi_sle.mpr ?_⟩
    · rw [toInt_of_lt h, e0]; exact Int.natCast_nonneg _
    · rw [toInt_of_lt h, e1]; exact Int.ofNat_le.mpr (Nat.le_of_lt_succ h)

/-- The reference's run: it ends with its value in the result, the arguments unchanged and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v0)
            = value (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => h c, sem_eq_zero_of_no_sems (by decide) r.2⟩)
    (Cert.ReferenceIdeal.Value.run m ρ)

end Cert.Proof.Ref

end
-- ==== Proof.lean ====
/-
  The certificate. The program's run (Proof/Launch.lean) is written once, over any float values; the two frames of the kernel
  and the value claim read it at the two instances. The reference's run and its value are in Proof/Ref.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem

/-- The range predicate on the kernel's memory says that every index is a column of `x`: the kernel as printed. -/
theorem pre_kernel {m : (ℓ : Loc Cert.Kernel.nD Cert.Kernel.τ Cert.Kernel.sig) → Buf (Elt Bits) ℓ} (h : Cert.Pre_Kernel m) :
    Tile.PreOK (F := Bits) m :=
  fun d j => Ref.lt_of_pre _ _ (h d) j

/-- The same of the kernel read over the extended reals. -/
theorem pre_ideal {m : (ℓ : Loc Cert.KernelIdeal.nD Cert.KernelIdeal.τ Cert.KernelIdeal.sig) → Buf (Elt Ideal) ℓ}
    (h : Cert.Pre_KernelIdeal m) : Tile.PreOK (F := Ideal) m :=
  fun d j => Ref.lt_of_pre _ _ (h d) j

/-- The kernel as printed runs, leaves its arguments as they were and every counter at zero. -/
theorem frame_kernel : Cert.quiescent_Kernel := fun m ρ hpre =>
  (θ_run (Cert.KernelIdeal.defs (F := Bits)) _ _).mono (fun _ h => ⟨fun c => ⟨(h.1 c).1, (h.1 c).2.1⟩, h.2⟩)
    (Tile.run_main (F := Bits) m ρ (pre_kernel hpre))

/-- The kernel over the extended reals runs, leaves its arguments as they were and every counter at zero. -/
theorem frame_ideal : Cert.quiescent_KernelIdeal := fun m ρ hpre =>
  (θ_run (Cert.KernelIdeal.defs (F := Ideal)) _ _).mono (fun _ h => ⟨fun c => ⟨(h.1 c).1, (h.1 c).2.1⟩, h.2⟩)
    (Tile.run_main (F := Ideal) m ρ (pre_ideal hpre))

/-- The reference runs, leaves its arguments as they were and every counter at zero. -/
theorem frame_reference : Cert.quiescent_ReferenceIdeal := fun m ρ _ =>
  (θ_run (Cert.ReferenceIdeal.defs (F := Ideal)) _ _).mono (fun _ h => ⟨fun c => (h.1 c).2, h.2⟩) (Ref.run (F := Ideal) m ρ)

/-- The same on the memories of the range predicate. -/
theorem frame_reference_in_range : Cert.quiescent_ReferenceIdeal_pre_in_range := fun m ρ _ =>
  (θ_run (Cert.ReferenceIdeal.defs (F := Ideal)) _ _).mono (fun _ h => ⟨fun c => (h.1 c).2, h.2⟩) (Ref.run (F := Ideal) m ρ)

/-- The kernel and the reference end with the same result: `x (i, d (i, j))` at `(i, j)`. -/
theorem value_claim : Cert.algebraic_KernelIdeal_ReferenceIdeal := fun m ρ m' ρ' hpre hm => by
  have hv : ∀ c : Dev Cert.KernelIdeal.nD,
      Ref.value (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
        = Tile.G (Tile.Xm m c) (Tile.Dm m c) := fun c => by
    rw [(hm c).1, (hm c).2]
    exact Ref.value_eq _ _ (pre_ideal hpre c)
  exact ⟨fun c => Tile.G (Tile.Xm m c) (Tile.Dm m c),
    (θ_run (Cert.KernelIdeal.defs (F := Ideal)) _ _).mono
      (fun _ h c => ⟨(h.1 c).2.2, (h.1 c).1, (h.1 c).2.1⟩) (Tile.run_main (F := Ideal) m ρ (pre_ideal hpre)),
    (θ_run (Cert.ReferenceIdeal.defs (F := Ideal)) _ _).mono
      (fun _ h c => ⟨(h.1 c).1.trans (hv c), (h.1 c).2⟩) (Ref.run (F := Ideal) m' ρ')⟩

/-- Everything the certificate claims. -/
theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, value_claim⟩

end Cert.Proof

end
